-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Kernel_in_range_no_tie [hPre_in_range_no_tie : Cert.Pre_in_range_no_tie.Facts] (m : (ℓ : Loc Cert.Kernel.nD Cert.Kernel.τ Cert.Kernel.sig) → Buf (Elt Bits) ℓ) : Prop :=
  ∀ c : Dev Cert.Kernel.nD,
    (Cert.Pre_in_range_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range_no_tie : Cert.Pre_in_range_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_no_tie [hPre_in_range_no_tie : Cert.Pre_in_range_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_in_range_no_tie [hKernel : Cert.Kernel.Facts] [hPre_in_range_no_tie : Cert.Pre_in_range_no_tie.Facts] : Prop :=
  ∀ (m : (ℓ : Loc Cert.Kernel.nD Cert.Kernel.τ Cert.Kernel.sig) → Buf (Elt Bits) ℓ) (g : Dev Cert.Kernel.nD → PrngReg), Pre_Kernel_in_range_no_tie m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range_no_tie : Cert.Pre_in_range_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_no_tie [hReferenceIdeal : Cert.ReferenceIdeal.Facts] [hPre_in_range_no_tie : Cert.Pre_in_range_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range_no_tie : Cert.Pre_in_range_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_in_range_no_tie : Cert.Pre_in_range_no_tie.Facts),
    quiescent_Kernel (hKernel := hKernel) (hPre_batch_in_range := hPre_batch_in_range)
    ∧ quiescent_Kernel_pre_in_range_no_tie (hKernel := hKernel) (hPre_in_range_no_tie := hPre_in_range_no_tie)
    ∧ quiescent_KernelIdeal (hKernelIdeal := hKernelIdeal) (hPre_in_range_no_tie := hPre_in_range_no_tie)
    ∧ quiescent_ReferenceIdeal (hReferenceIdeal := hReferenceIdeal)
    ∧ quiescent_ReferenceIdeal_pre_in_range_no_tie (hReferenceIdeal := hReferenceIdeal) (hPre_in_range_no_tie := hPre_in_range_no_tie)
    ∧ preserves_Kernel_KernelIdeal
    ∧ algebraic_KernelIdeal_ReferenceIdeal (hKernelIdeal := hKernelIdeal) (hReferenceIdeal := hReferenceIdeal) (hPre_in_range_no_tie := hPre_in_range_no_tie)
-- ==== Pre_batch_in_range.lean ====
abbrev S32768x128 : Shape := ⟨2, ![32768, 128]⟩
abbrev S32768 : Shape := ⟨1, ![32768]⟩
abbrev S128 : Shape := ⟨1, ![128]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32768x128 .f32) (main_arg1 : FVec F S32768x128 .f32) (main_arg2 : IVec S32768 32) (main_arg3 : IVec S128 32) (main_arg4 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg4 main_v0
  let main_c_0 : IVec S_ 32 := constantI S_ 32 128#32
  let main_v2 : IVec S32768 32 := broadcastInDim S32768 ![] bcast_S_S32768 main_c_0
  let main_v3 : IVec S32768 1 := cmpi .slt main_arg4 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Pre_in_range_no_tie.lean ====
abbrev S32768x128 : Shape := ⟨2, ![32768, 128]⟩
abbrev S32768 : Shape := ⟨1, ![32768]⟩
abbrev S128 : Shape := ⟨1, ![128]⟩
abbrev S50 : Shape := ⟨1, ![50]⟩
abbrev S_ : Shape := ⟨0, ![]⟩
abbrev S128x1 : Shape := ⟨2, ![128, 1]⟩
abbrev S1 : Shape := ⟨1, ![1]⟩
abbrev S1x1 : Shape := ⟨2, ![1, 1]⟩
abbrev S32768x1 : Shape := ⟨2, ![32768, 1]⟩
abbrev S1x128 : Shape := ⟨2, ![1, 128]⟩

class Facts : Prop where
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1x1_S32768x1_0_1 : S1x1.BroadcastsInDim S32768x1 (![0, 1] : Fin 2 → Fin S32768x1.rank)
  reducesTo_S32768x1_S32768_d1 : S32768x1.ReducesTo [1] S32768
  bcast_S32768x1_S32768x128_0_1 : S32768x1.BroadcastsInDim S32768x128 (![0, 1] : Fin 2 → Fin S32768x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S128_S1x128_1 : S128.BroadcastsInDim S1x128 (![1] : Fin 1 → Fin S1x128.rank)
  reducesTo_S32768x128_S32768_d1 : S32768x128.ReducesTo [1] S32768
  natLt_1_32 : 1 < 32
  reducesTo_S128_S_d0 : S128.ReducesTo [0] S_
  reducesTo_S32768_S_d0 : S32768.ReducesTo [0] S_
  gather_S50_S128x1_S128_n_0_n_n_0_1_1_wf : GatherDims.WF S50 S128x1 S128 [] [0] [] [0] [] 1 ![1]
  gather_S128_S32768x1_S32768_n_0_n_n_0_1_1_wf : GatherDims.WF S128 S32768x1 S32768 [] [0] [] [0] [] 1 ![1]

variable [Facts]

variable {F : FTy → Type} [FloatOps F]
def gather_S50_S128x1_S128_n_0_n_n_0_1_1 : GatherDims S50 S128x1 S128 where
  offsetDims := []
  collapsedSliceDims := [0]
  operandBatchingDims := []
  startIndicesBatchingDims := []
  startIndexMap := [0]
  indexVectorDim := 1
  sliceSizes := ![1]
  wf := gather_S50_S128x1_S128_n_0_n_n_0_1_1_wf
def gather_S128_S32768x1_S32768_n_0_n_n_0_1_1 : GatherDims S128 S32768x1 S32768 where
  offsetDims := []
  collapsedSliceDims := [0]
  operandBatchingDims := []
  startIndicesBatchingDims := []
  startIndexMap := [0]
  indexVectorDim := 1
  sliceSizes := ![1]
  wf := gather_S128_S32768x1_S32768_n_0_n_n_0_1_1_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

noncomputable abbrev lit0 : Fin 50 → BitVec 32 := fun
  | 0 => 0xB9D1C1D5#32 | 1 => 0xBA51CC94#32 | 2 => 0xBA9D617F#32 | 3 => 0xBAD1E216#32 | 4 => 0xBB033408#32 | 5 => 0xBB1D79B7#32 | 6 => 0xBB37C218#32 | 7 => 0xBB520D2D#32
  | 8 => 0xBB6C5AF5#32 | 9 => 0xBB8355B8#32 | 10 => 0xBB907F51#32 | 11 => 0xBB9DAA44#32 | 12 => 0xBBAAD692#32 | 13 => 0xBBB8043B#32 | 14 => 0xBBC53340#32 | 15 => 0xBBD263A0#32
  | 16 => 0xBBDF955D#32 | 17 => 0xBBECC876#32 | 18 => 0xBBF9FCEB#32 | 19 => 0xBC03995F#32 | 20 => 0xBC0A34F6#32 | 21 => 0xBC10D13D#32 | 22 => 0xBC176E32#32 | 23 => 0xBC1E0BD6#32
  | 24 => 0xBC24AA2A#32 | 25 => 0xBC2B492D#32 | 26 => 0xBC31E8DF#32 | 27 => 0xBC388941#32 | 28 => 0xBC3F2A52#32 | 29 => 0xBC45CC13#32 | 30 => 0xBC4C6E85#32 | 31 => 0xBC5311A6#32
  | 32 => 0xBC59B578#32 | 33 => 0xBC6059FA#32 | 34 => 0xBC66FF2D#32 | 35 => 0xBC6DA510#32 | 36 => 0xBC744BA5#32 | 37 => 0xBC7AF2EA#32 | 38 => 0xBC80CD70#32 | 39 => 0xBC8421C4#32
  | 40 => 0xBC877671#32 | 41 => 0xBC8ACB76#32 | 42 => 0xBC8E20D4#32 | 43 => 0xBC91768B#32 | 44 => 0xBC94CC9B#32 | 45 => 0xBC982305#32 | 46 => 0xBC9B79C7#32 | 47 => 0xBC9ED0E3#32
  | 48 => 0xBCA22858#32 | 49 => 0xBCA58026#32
  | _ => 0#32

noncomputable abbrev lit1 : Fin 50 → BitVec 32 := fun
  | 0 => 0xC0FA5E96#32 | 1 => 0xC0E43053#32 | 2 => 0xC0D736C1#32 | 3 => 0xC0CE0210#32 | 4 => 0xC0C6DE12#32 | 5 => 0xC0C1087E#32 | 6 => 0xC0BC19B0#32 | 7 => 0xC0B7D3CD#32
  | 8 => 0xC0B40EEC#32 | 9 => 0xC0B0AFCF#32 | 10 => 0xC0ADA307#32 | 11 => 0xC0AADA3B#32 | 12 => 0xC0A84A85#32 | 13 => 0xC0A5EB6D#32 | 14 => 0xC0A3B63D#32 | 15 => 0xC0A1A58A#32
  | 16 => 0xC09FB4E7#32 | 17 => 0xC09DE0A9#32 | 18 => 0xC09C25BE#32 | 19 => 0xC09A818C#32 | 20 => 0xC098F1DB#32 | 21 => 0xC09774C4#32 | 22 => 0xC096089E#32 | 23 => 0xC094ABF8#32
  | 24 => 0xC0935D8E#32 | 25 => 0xC0921C42#32 | 26 => 0xC090E717#32 | 27 => 0xC08FBD2A#32 | 28 => 0xC08E9DB3#32 | 29 => 0xC08D87FA#32 | 30 => 0xC08C7B5D#32 | 31 => 0xC08B7747#32
  | 32 => 0xC08A7B32#32 | 33 => 0xC08986A4#32 | 34 => 0xC088992C#32 | 35 => 0xC087B266#32 | 36 => 0xC086D1F2#32 | 37 => 0xC085F77B#32 | 38 => 0xC08522B0#32 | 39 => 0xC0845349#32
  | 40 => 0xC0838901#32 | 41 => 0xC082C398#32 | 42 => 0xC08202D5#32 | 43 => 0xC0814681#32 | 44 => 0xC0808E68#32 | 45 => 0xC07FB4B6#32 | 46 => 0xC07E545A#32 | 47 => 0xC07CFB6A#32
  | 48 => 0xC07BA996#32 | 49 => 0xC07A5E96#32
  | _ => 0#32

noncomputable abbrev lit2 : Fin 50 → BitVec 32 := fun
  | 0 => 0x00000000#32 | 1 => 0xB9D1C1D5#32 | 2 => 0xBA9D56BF#32 | 3 => 0xBB1D5C1F#32 | 4 => 0xBB832695#32 | 5 => 0xBBC4C099#32 | 6 => 0xBC09BEBA#32 | 7 => 0xBC37AF40#32
  | 8 => 0xBC6C328B#32 | 9 => 0xBC93A4A4#32 | 10 => 0xBCB47A12#32 | 11 => 0xBCD899E7#32 | 12 => 0xBD00023C#32 | 13 => 0xBD155D0E#32 | 14 => 0xBD2C5D95#32 | 15 => 0xBD4503FD#32
  | 16 => 0xBD5F5072#32 | 17 => 0xBD7B431D#32 | 18 => 0xBD8C6E16#32 | 19 => 0xBD9C0DE5#32 | 20 => 0xBDAC8110#32 | 21 => 0xBDBDC7AF#32 | 22 => 0xBDCFE1D7#32 | 23 => 0xBDE2CF9D#32
  | 24 => 0xBDF69118#32 | 25 => 0xBE05932F#32 | 26 => 0xBE1047C1#32 | 27 => 0xBE1B664F#32 | 28 => 0xBE26EEE3#32 | 29 => 0xBE32E188#32 | 30 => 0xBE3F3E4A#32 | 31 => 0xBE4C0532#32
  | 32 => 0xBE59364C#32 | 33 => 0xBE66D1A4#32 | 34 => 0xBE74D743#32 | 35 => 0xBE81A39B#32 | 36 => 0xBE8910C4#32 | 37 => 0xBE90B321#32 | 38 => 0xBE988AB8#32 | 39 => 0xBEA0978F#32
  | 40 => 0xBEA8D9AB#32 | 41 => 0xBEB15112#32 | 42 => 0xBEB9FDCA#32 | 43 => 0xBEC2DFD7#32 | 44 => 0xBECBF740#32 | 45 => 0xBED54409#32 | 46 => 0xBEDEC63A#32 | 47 => 0xBEE87DD6#32
  | 48 => 0xBEF26AE4#32 | 49 => 0xBEFC8D6A#32
  | _ => 0#32

noncomputable abbrev lit3 : Fin 50 → BitVec 32 := fun
  | 0 => 0xC28A27B5#32 | 1 => 0xC0FA5E96#32 | 2 => 0xC0D738F0#32 | 3 => 0xC0C10E80#32 | 4 => 0xC0B0BB47#32 | 5 => 0xC0A3C8CF#32 | 6 => 0xC0990D2A#32 | 7 => 0xC08FE2D8#32
  | 8 => 0xC087E415#32 | 9 => 0xC080CDBA#32 | 10 => 0xC074E233#32 | 11 => 0xC06958D4#32 | 12 => 0xC05ECCDA#32 | 13 => 0xC0551786#32 | 14 => 0xC04C1A78#32 | 15 => 0xC043BD6D#32
  | 16 => 0xC03BECB5#32 | 17 => 0xC034981D#32 | 18 => 0xC02DB227#32 | 19 => 0xC0272F79#32 | 20 => 0xC021066E#32 | 21 => 0xC01B2EC1#32 | 22 => 0xC015A150#32 | 23 => 0xC01057E5#32
  | 24 => 0xC00B4D13#32 | 25 => 0xC0067C11#32 | 26 => 0xC001E0A5#32 | 27 => 0xBFFAEE17#32 | 28 => 0xBFF277D2#32 | 29 => 0xBFEA5872#32 | 30 => 0xBFE28A8A#32 | 31 => 0xBFDB0932#32
  | 32 => 0xBFD3CFF6#32 | 33 => 0xBFCCDAC9#32 | 34 => 0xBFC625F7#32 | 35 => 0xBFBFAE1E#32 | 36 => 0xBFB97022#32 | 37 => 0xBFB36927#32 | 38 => 0xBFAD9688#32 | 39 => 0xBFA7F5D6#32
  | 40 => 0xBFA284CC#32 | 41 => 0xBF9D4150#32 | 42 => 0xBF98296D#32 | 43 => 0xBF933B51#32 | 44 => 0xBF8E7545#32 | 45 => 0xBF89D5B3#32 | 46 => 0xBF855B19#32 | 47 => 0xBF810411#32
  | 48 => 0xBF799E8E#32 | 49 => 0xBF7176F8#32
  | _ => 0#32

def fn_where {F : FTy → Type} [FloatOps F] (arg0 : IVec S128 1) (arg1 : IVec S128 32) (arg2 : IVec S128 32) : IVec S128 32 :=
  let v0 : IVec S128 32 := select arg0 arg1 arg2
  v0

def fn_take {F : FTy → Type} [FloatOps F] (arg0 : FVec F S50 .f32) (arg1 : IVec S128 32) : FVec F S128 .f32 :=
  let c : IVec S_ 32 := constantI S_ 32 0#32
  let v0 : IVec S128 32 := broadcastInDim S128 ![] bcast_S_S128 c
  let v1 : IVec S128 1 := cmpi .slt arg1 v0
  let c_0 : IVec S_ 32 := constantI S_ 32 50#32
  let v2 : IVec S128 32 := broadcastInDim S128 ![] bcast_S_S128 c_0
  let v3 : IVec S128 32 := addi arg1 v2
  let v4 : IVec S128 32 := fn_where (F := F) v1 v3 arg1
  let v5 : IVec S128x1 32 := broadcastInDim S128x1 ![0] bcast_S128_S128x1_0 v4
  let c_1 : IVec S1 32 := constantI S1 32 49#32
  let c_2 : IVec S_ 32 := constantI S_ 32 0#32
  let v6 : IVec S128x1 32 := broadcastInDim S128x1 ![] bcast_S_S128x1 c_2
  let v7 : IVec S128x1 1 := cmpi .sge v5 v6
  let v8 : IVec S1x1 32 := broadcastInDim S1x1 ![1] bcast_S1_S1x1_1 c_1
  let v9 : IVec S128x1 32 := broadcastInDim S128x1 ![0, 1] bcast_S1x1_S128x1_0_1 v8
  let v10 : IVec S128x1 1 := cmpi .sle v5 v9
  let v11 : IVec S128x1 1 := andi v7 v10
  let c_3 : IVec S_ 1 := constantI S_ 1 1#1
  let v12 : IVec S128 1 := (fun x v => Host.reduce IntOp.andi x v reducesTo_S128x1_S128_d1 h_S_) v11 c_3
  let v13 : FVec F S128 .f32 := (fun x i => Host.gather gather_S50_S128x1_S128_n_0_n_n_0_1_1 x i) arg0 v5
  let cst : FVec F S_ .f32 := constant S_ .f32 0x7FC00000#32
  let v14 : FVec F S128 .f32 := broadcastInDim S128 ![] bcast_S_S128 cst
  let v15 : FVec F S128 .f32 := select v12 v13 v14
  v15

def fn_where_1 {F : FTy → Type} [FloatOps F] (arg0 : IVec S32768 1) (arg1 : IVec S32768 32) (arg2 : IVec S32768 32) : IVec S32768 32 :=
  let v0 : IVec S32768 32 := select arg0 arg1 arg2
  v0

def fn_take_0 {F : FTy → Type} [FloatOps F] (arg0 : FVec F S128 .f32) (arg1 : IVec S32768 32) : FVec F S32768 .f32 :=
  let c : IVec S_ 32 := constantI S_ 32 0#32
  let v0 : IVec S32768 32 := broadcastInDim S32768 ![] bcast_S_S32768 c
  let v1 : IVec S32768 1 := cmpi .slt arg1 v0
  let c_0 : IVec S_ 32 := constantI S_ 32 128#32
  let v2 : IVec S32768 32 := broadcastInDim S32768 ![] bcast_S_S32768 c_0
  let v3 : IVec S32768 32 := addi arg1 v2
  let v4 : IVec S32768 32 := fn_where_1 (F := F) v1 v3 arg1
  let v5 : IVec S32768x1 32 := broadcastInDim S32768x1 ![0] bcast_S32768_S32768x1_0 v4
  let c_1 : IVec S1 32 := constantI S1 32 127#32
  let c_2 : IVec S_ 32 := constantI S_ 32 0#32
  let v6 : IVec S32768x1 32 := broadcastInDim S32768x1 ![] bcast_S_S32768x1 c_2
  let v7 : IVec S32768x1 1 := cmpi .sge v5 v6
  let v8 : IVec S1x1 32 := broadcastInDim S1x1 ![1] bcast_S1_S1x1_1 c_1
  let v9 : IVec S32768x1 32 := broadcastInDim S32768x1 ![0, 1] bcast_S1x1_S32768x1_0_1 v8
  let v10 : IVec S32768x1 1 := cmpi .sle v5 v9
  let v11 : IVec S32768x1 1 := andi v7 v10
  let c_3 : IVec S_ 1 := constantI S_ 1 1#1
  let v12 : IVec S32768 1 := (fun x v => Host.reduce IntOp.andi x v reducesTo_S32768x1_S32768_d1 h_S_) v11 c_3
  let v13 : FVec F S32768 .f32 := (fun x i => Host.gather gather_S128_S32768x1_S32768_n_0_n_n_0_1_1 x i) arg0 v5
  let cst : FVec F S_ .f32 := constant S_ .f32 0x7FC00000#32
  let v14 : FVec F S32768 .f32 := broadcastInDim S32768 ![] bcast_S_S32768 cst
  let v15 : FVec F S32768 .f32 := select v12 v13 v14
  v15

def fn_one_hot {F : FTy → Type} [FloatOps F] (arg0 : IVec S32768 32) : FVec F S32768x128 .f32 :=
  let v0 : IVec S32768x1 32 := broadcastInDim S32768x1 ![0] bcast_S32768_S32768x1_0 arg0
  let v1 : IVec S1x128 32 := iotaInDim S1x128 32 1
  let v2 : IVec S32768x128 32 := broadcastInDim S32768x128 ![0, 1] bcast_S32768x1_S32768x128_0_1 v0
  let v3 : IVec S32768x128 32 := broadcastInDim S32768x128 ![0, 1] bcast_S1x128_S32768x128_0_1 v1
  let v4 : IVec S32768x128 1 := cmpi .eq v2 v3
  let v5 : FVec F S32768x128 .f32 := uitofp .f32 v4
  v5

def fn_clip {F : FTy → Type} [FloatOps F] (arg0 : FVec F S32768x128 .f32) (arg1 : FVec F S_ .f32) : FVec F S32768x128 .f32 :=
  let v0 : FVec F S_ .f32 := id arg1
  let v1 : FVec F S32768x128 .f32 := broadcastInDim S32768x128 ![] bcast_S_S32768x128 v0
  let v2 : FVec F S32768x128 .f32 := maximumf v1 arg0
  v2

def fn_where_2 {F : FTy → Type} [FloatOps F] (arg0 : IVec S32768x1 1) (arg1 : FVec F S32768x1 .f32) (arg2 : FVec F S_ .f32) : FVec F S32768x1 .f32 :=
  let v0 : FVec F S32768x1 .f32 := broadcastInDim S32768x1 ![] bcast_S_S32768x1 arg2
  let v1 : FVec F S32768x1 .f32 := select arg0 arg1 v0
  v1

def fn_where_3 {F : FTy → Type} [FloatOps F] (arg0 : IVec S32768x1 1) (arg1 : FVec F S32768x128 .f32) (arg2 : FVec F S32768x128 .f32) : FVec F S32768x128 .f32 :=
  let v0 : IVec S32768x128 1 := broadcastInDim S32768x128 ![0, 1] bcast_S32768x1_S32768x128_0_1 arg0
  let v1 : FVec F S32768x128 .f32 := select v0 arg1 arg2
  v1

def fn_argmax {F : FTy → Type} [FloatOps F] (arg0 : FVec F S32768x128 .f32) : IVec S32768 32 :=
  let v0 : IVec S32768x128 32 := iotaInDim S32768x128 32 1
  let cst : FVec F S_ .f32 := constant S_ .f32 0xFF800000#32
  let c : IVec S_ 32 := constantI S_ 32 0#32
  let v1_0 : FVec F S32768 .f32 := (fun x y u v j => (Host.argReduce reducer_argmax_f32_i32 x y u v reducesTo_S32768x128_S32768_d1 h_S_ j).1) arg0 v0 cst c
  let v1_1 : IVec S32768 32 := (fun x y u v j => (Host.argReduce reducer_argmax_f32_i32 x y u v reducesTo_S32768x128_S32768_d1 h_S_ j).2) arg0 v0 cst c
  v1_1

def fn_argmax_4 {F : FTy → Type} [FloatOps F] (arg0 : FVec F S32768x128 .f32) : IVec S32768 32 :=
  let v0 : IVec S32768x128 32 := iotaInDim S32768x128 32 1
  let cst : FVec F S_ .f32 := constant S_ .f32 0xFF800000#32
  let c : IVec S_ 32 := constantI S_ 32 0#32
  let v1_0 : FVec F S32768 .f32 := (fun x y u v j => (Host.argReduce reducer_argmax_f32_i32 x y u v reducesTo_S32768x128_S32768_d1 h_S_ j).1) arg0 v0 cst c
  let v1_1 : IVec S32768 32 := (fun x y u v j => (Host.argReduce reducer_argmax_f32_i32 x y u v reducesTo_S32768x128_S32768_d1 h_S_ j).2) arg0 v0 cst c
  v1_1

def fn_where_5 {F : FTy → Type} [FloatOps F] (arg0 : IVec S32768 1) (arg1 : IVec S32768 32) (arg2 : IVec S32768 32) : IVec S32768 32 :=
  let v0 : IVec S32768 32 := select arg0 arg1 arg2
  v0

def fn_part6 {F : FTy → Type} [FloatOps F] (main_v105 : IVec S32768 32) (main_v111 : IVec S_ 1) (main_v116 : IVec S32768 1) : IVec S_ 1 :=
  let main_c_25 : IVec S_ 1 := constantI S_ 1 1#1
  let main_v117 : IVec S_ 1 := (fun x v => Host.reduce IntOp.andi x v reducesTo_S32768_S_d0 h_S_) main_v116 main_c_25
  let main_v118 : IVec S_ 1 := andi main_v111 main_v117
  let main_c_26 : IVec S_ 32 := constantI S_ 32 1#32
  let main_v119 : IVec S32768 32 := broadcastInDim S32768 ![] bcast_S_S32768 main_c_26
  let main_v120 : IVec S32768 1 := cmpi .eq main_v105 main_v119
  let main_c_27 : IVec S_ 1 := constantI S_ 1 1#1
  let main_v121 : IVec S_ 1 := (fun x v => Host.reduce IntOp.andi x v reducesTo_S32768_S_d0 h_S_) main_v120 main_c_27
  let main_v122 : IVec S_ 1 := andi main_v118 main_v121
  main_v122

def fn_part5 {F : FTy → Type} [FloatOps F] (main_arg3 : IVec S128 32) (main_arg4 : IVec S32768 32) (main_v99 : FVec F S32768x128 .f32) : IVec S_ 1 :=
  let main_cst_18 : FVec F S_ .f32 := constant S_ .f32 0xFF800000#32
  let main_v100 : FVec F S32768 .f32 := (fun x v => Host.reduce FloatOps.maximumf x v reducesTo_S32768x128_S32768_d1 h_S_) main_v99 main_cst_18
  let main_v101 : FVec F S32768x1 .f32 := broadcastInDim S32768x1 ![0] bcast_S32768_S32768x1_0 main_v100
  let main_v102 : FVec F S32768x128 .f32 := broadcastInDim S32768x128 ![0, 1] bcast_S32768x1_S32768x128_0_1 main_v101
  let main_v103 : IVec S32768x128 1 := cmpf .oeq main_v99 main_v102
  let main_v104 : IVec S32768x128 32 := (extui 32 · natLt_1_32) main_v103
  let main_c_19 : IVec S_ 32 := constantI S_ 32 0#32
  let main_v105 : IVec S32768 32 := (fun x v => Host.reduce IntOp.addi x v reducesTo_S32768x128_S32768_d1 h_S_) main_v104 main_c_19
  let main_c_20 : IVec S_ 32 := constantI S_ 32 0#32
  let main_v106 : IVec S128 32 := broadcastInDim S128 ![] bcast_S_S128 main_c_20
  let main_v107 : IVec S128 1 := cmpi .sge main_arg3 main_v106
  let main_c_21 : IVec S_ 32 := constantI S_ 32 50#32
  let main_v108 : IVec S128 32 := broadcastInDim S128 ![] bcast_S_S128 main_c_21
  let main_v109 : IVec S128 1 := cmpi .slt main_arg3 main_v108
  let main_v110 : IVec S128 1 := andi main_v107 main_v109
  let main_c_22 : IVec S_ 1 := constantI S_ 1 1#1
  let main_v111 : IVec S_ 1 := (fun x v => Host.reduce IntOp.andi x v reducesTo_S128_S_d0 h_S_) main_v110 main_c_22
  let main_c_23 : IVec S_ 32 := constantI S_ 32 0#32
  let main_v112 : IVec S32768 32 := broadcastInDim S32768 ![] bcast_S_S32768 main_c_23
  let main_v113 : IVec S32768 1 := cmpi .sge main_arg4 main_v112
  let main_c_24 : IVec S_ 32 := constantI S_ 32 128#32
  let main_v114 : IVec S32768 32 := broadcastInDim S32768 ![] bcast_S_S32768 main_c_24
  let main_v115 : IVec S32768 1 := cmpi .slt main_arg4 main_v114
  let main_v116 : IVec S32768 1 := andi main_v113 main_v115
  fn_part6 (F := F) main_v105 main_v111 main_v116

def fn_part4 {F : FTy → Type} [FloatOps F] (main_arg0 : FVec F S32768x128 .f32) (main_arg1 : FVec F S32768x128 .f32) (main_arg3 : IVec S128 32) (main_arg4 : IVec S32768 32) (main_v67 : FVec F S32768x128 .f32) (main_cst_13 : FVec F S_ .f32) : IVec S_ 1 :=
  let main_v80 : FVec F S32768x128 .f32 := broadcastInDim S32768x128 ![] bcast_S_S32768x128 main_cst_13
  let main_v81 : FVec F S32768x128 .f32 := addf main_arg1 main_v80
  let main_v82 : FVec F S32768x128 .f32 := Host.log main_v81
  let main_v83 : FVec F S32768x128 .f32 := Host.negf main_v82
  let main_cst_14 : FVec F S_ .f32 := constant S_ .f32 0x0DA24260#32
  let main_v84 : FVec F S32768x128 .f32 := broadcastInDim S32768x128 ![] bcast_S_S32768x128 main_cst_14
  let main_v85 : FVec F S32768x128 .f32 := addf main_v83 main_v84
  let main_v86 : FVec F S32768x128 .f32 := Host.log main_v85
  let main_v87 : FVec F S32768x128 .f32 := Host.negf main_v86
  let main_c_15 : IVec S_ 32 := constantI S_ 32 0#32
  let main_v88 : IVec S32768 32 := broadcastInDim S32768 ![] bcast_S_S32768 main_c_15
  let main_v89 : IVec S32768 1 := cmpi .slt main_arg4 main_v88
  let main_c_16 : IVec S_ 32 := constantI S_ 32 128#32
  let main_v90 : IVec S32768 32 := broadcastInDim S32768 ![] bcast_S_S32768 main_c_16
  let main_v91 : IVec S32768 32 := addi main_arg4 main_v90
  let main_v92 : IVec S32768 32 := select main_v89 main_v91 main_arg4
  let main_v93 : IVec S32768x1 32 := broadcastInDim S32768x1 ![0] bcast_S32768_S32768x1_0 main_v92
  let main_v94 : IVec S32768 32 := (fun x i => Host.gather gather_S128_S32768x1_S32768_n_0_n_n_0_1_1 x i) main_arg3 main_v93
  let main_c_17 : IVec S_ 32 := constantI S_ 32 0#32
  let main_v95 : IVec S32768 32 := broadcastInDim S32768 ![] bcast_S_S32768 main_c_17
  let main_v96 : IVec S32768 1 := cmpi .eq main_v94 main_v95
  let main_v97 : IVec S32768x1 1 := broadcastInDim S32768x1 ![0] bcast_S32768_S32768x1_0 main_v96
  let main_v98 : FVec F S32768x128 .f32 := addf main_v87 main_v67
  let main_v99 : FVec F S32768x128 .f32 := fn_where_3 (F := F) main_v97 main_arg0 main_v98
  fn_part5 (F := F) main_arg3 main_arg4 main_v99

def fn_part3 {F : FTy → Type} [FloatOps F] (main_arg0 : FVec F S32768x128 .f32) (main_arg1 : FVec F S32768x128 .f32) (main_arg3 : IVec S128 32) (main_arg4 : IVec S32768 32) (main_v20 : IVec S32768 1) (main_v50 : FVec F S32768x128 .f32) (main_v56 : FVec F S32768x1 .f32) (main_v59 : FVec F S32768x128 .f32) : IVec S_ 1 :=
  let main_cst_10 : FVec F S_ .f32 := constant S_ .f32 0x00000000#32
  let main_v60 : FVec F S32768 .f32 := (fun x v => Host.reduceAdd x v reducesTo_S32768x128_S32768_d1 h_S_) main_v59 main_cst_10
  let main_v61 : FVec F S32768x1 .f32 := broadcastInDim S32768x1 ![0] bcast_S32768_S32768x1_0 main_v60
  let main_v62 : FVec F S32768x1 .f32 := Host.log main_v61
  let main_v63 : FVec F S32768x1 .f32 := addf main_v62 main_v56
  let main_v64 : FVec F S32768x128 .f32 := broadcastInDim S32768x128 ![0, 1] bcast_S32768x1_S32768x128_0_1 main_v63
  let main_v65 : FVec F S32768x128 .f32 := subf main_v50 main_v64
  let main_v66 : IVec S32768x1 1 := broadcastInDim S32768x1 ![0] bcast_S32768_S32768x1_0 main_v20
  let main_v67 : FVec F S32768x128 .f32 := fn_where_3 (F := F) main_v66 main_arg0 main_v65
  let main_cst_11 : FVec F S_ .f32 := constant S_ .f32 0x0DA24260#32
  let main_v68 : FVec F S32768x128 .f32 := broadcastInDim S32768x128 ![] bcast_S_S32768x128 main_cst_11
  let main_v69 : FVec F S32768x128 .f32 := addf main_arg1 main_v68
  let main_v70 : FVec F S32768x128 .f32 := Host.log main_v69
  let main_v71 : FVec F S32768x128 .f32 := Host.negf main_v70
  let main_cst_12 : FVec F S_ .f32 := constant S_ .f32 0x0DA24260#32
  let main_v72 : FVec F S32768x128 .f32 := broadcastInDim S32768x128 ![] bcast_S_S32768x128 main_cst_12
  let main_v73 : FVec F S32768x128 .f32 := addf main_v71 main_v72
  let main_v74 : FVec F S32768x128 .f32 := Host.log main_v73
  let main_v75 : FVec F S32768x128 .f32 := Host.negf main_v74
  let main_v76 : FVec F S32768x128 .f32 := addf main_v75 main_v67
  let main_v77 : IVec S32768 32 := fn_argmax (F := F) main_v76
  let main_v78 : IVec S32768 32 := fn_argmax_4 (F := F) main_arg0
  let main_v79 : IVec S32768 32 := fn_where_5 (F := F) main_v20 main_v78 main_v77
  let main_cst_13 : FVec F S_ .f32 := constant S_ .f32 0x0DA24260#32
  fn_part4 (F := F) main_arg0 main_arg1 main_arg3 main_arg4 main_v67 main_cst_13

def fn_part2 {F : FTy → Type} [FloatOps F] (main_arg0 : FVec F S32768x128 .f32) (main_arg1 : FVec F S32768x128 .f32) (main_arg3 : IVec S128 32) (main_arg4 : IVec S32768 32) (main_v11 : FVec F S32768x1 .f32) (main_v20 : IVec S32768 1) (main_v25 : FVec F S32768x128 .f32) (main_v37 : FVec F S32768x128 .f32) (main_v38 : FVec F S32768x128 .f32) : IVec S_ 1 :=
  let main_v39 : FVec F S32768x128 .f32 := addf main_v38 main_arg0
  let main_v40 : FVec F S32768x128 .f32 := broadcastInDim S32768x128 ![0, 1] bcast_S32768x1_S32768x128_0_1 main_v11
  let main_v41 : FVec F S32768x128 .f32 := addf main_v40 main_v25
  let main_v42 : FVec F S32768x128 .f32 := maximumf main_v39 main_v41
  let main_v43 : FVec F S32768x128 .f32 := subf main_v39 main_v42
  let main_v44 : FVec F S32768x128 .f32 := Host.exp main_v43
  let main_v45 : FVec F S32768x128 .f32 := subf main_v41 main_v42
  let main_v46 : FVec F S32768x128 .f32 := Host.exp main_v45
  let main_v47 : FVec F S32768x128 .f32 := addf main_v44 main_v46
  let main_v48 : FVec F S32768x128 .f32 := Host.log main_v47
  let main_v49 : FVec F S32768x128 .f32 := addf main_v42 main_v48
  let main_v50 : FVec F S32768x128 .f32 := addf main_v37 main_v49
  let main_cst_7 : FVec F S_ .f32 := constant S_ .f32 0xFF800000#32
  let main_v51 : FVec F S32768 .f32 := (fun x v => Host.reduce FloatOps.maximumf x v reducesTo_S32768x128_S32768_d1 h_S_) main_v50 main_cst_7
  let main_v52 : FVec F S32768x1 .f32 := broadcastInDim S32768x1 ![0] bcast_S32768_S32768x1_0 main_v51
  let main_v53 : FVec F S32768x1 .f32 := Host.absf main_v52
  let main_cst_8 : FVec F S_ .f32 := constant S_ .f32 0x7F800000#32
  let main_v54 : FVec F S32768x1 .f32 := broadcastInDim S32768x1 ![] bcast_S_S32768x1 main_cst_8
  let main_v55 : IVec S32768x1 1 := cmpf .olt main_v53 main_v54
  let main_cst_9 : FVec F S_ .f32 := constant S_ .f32 0x00000000#32
  let main_v56 : FVec F S32768x1 .f32 := fn_where_2 (F := F) main_v55 main_v52 main_cst_9
  let main_v57 : FVec F S32768x128 .f32 := broadcastInDim S32768x128 ![0, 1] bcast_S32768x1_S32768x128_0_1 main_v56
  let main_v58 : FVec F S32768x128 .f32 := subf main_v50 main_v57
  let main_v59 : FVec F S32768x128 .f32 := Host.exp main_v58
  fn_part3 (F := F) main_arg0 main_arg1 main_arg3 main_arg4 main_v20 main_v50 main_v56 main_v59

def fn_part1 {F : FTy → Type} [FloatOps F] (main_arg0 : FVec F S32768x128 .f32) (main_arg1 : FVec F S32768x128 .f32) (main_arg2 : IVec S32768 32) (main_arg3 : IVec S128 32) (main_arg4 : IVec S32768 32) (main_cst_3 : FVec F S128 .f32) (main_v2 : FVec F S32768x1 .f32) (main_v5 : FVec F S32768x1 .f32) (main_v8 : FVec F S32768x1 .f32) (main_v11 : FVec F S32768x1 .f32) (main_v16 : IVec S32768 32) : IVec S_ 1 :=
  let main_v17 : IVec S32768x1 32 := broadcastInDim S32768x1 ![0] bcast_S32768_S32768x1_0 main_v16
  let main_v18 : IVec S32768 32 := (fun x i => Host.gather gather_S128_S32768x1_S32768_n_0_n_n_0_1_1 x i) main_arg3 main_v17
  let main_c_5 : IVec S_ 32 := constantI S_ 32 0#32
  let main_v19 : IVec S32768 32 := broadcastInDim S32768 ![] bcast_S_S32768 main_c_5
  let main_v20 : IVec S32768 1 := cmpi .eq main_v18 main_v19
  let main_v21 : FVec F S32768x128 .f32 := fn_one_hot (F := F) main_arg2
  let main_cst_6 : FVec F S_ .f32 := constant S_ .f32 0x0DA24260#32
  let main_v22 : FVec F S32768x128 .f32 := fn_clip (F := F) main_v21 main_cst_6
  let main_v23 : FVec F S32768x128 .f32 := Host.log main_v22
  let main_v24 : FVec F S1x128 .f32 := broadcastInDim S1x128 ![1] bcast_S128_S1x128_1 main_cst_3
  let main_v25 : FVec F S32768x128 .f32 := broadcastInDim S32768x128 ![0, 1] bcast_S1x128_S32768x128_0_1 main_v24
  let main_v26 : FVec F S32768x128 .f32 := broadcastInDim S32768x128 ![0, 1] bcast_S32768x1_S32768x128_0_1 main_v2
  let main_v27 : FVec F S32768x128 .f32 := addf main_v23 main_v26
  let main_v28 : FVec F S32768x128 .f32 := broadcastInDim S32768x128 ![0, 1] bcast_S32768x1_S32768x128_0_1 main_v5
  let main_v29 : FVec F S32768x128 .f32 := addf main_v28 main_v25
  let main_v30 : FVec F S32768x128 .f32 := maximumf main_v27 main_v29
  let main_v31 : FVec F S32768x128 .f32 := subf main_v27 main_v30
  let main_v32 : FVec F S32768x128 .f32 := Host.exp main_v31
  let main_v33 : FVec F S32768x128 .f32 := subf main_v29 main_v30
  let main_v34 : FVec F S32768x128 .f32 := Host.exp main_v33
  let main_v35 : FVec F S32768x128 .f32 := addf main_v32 main_v34
  let main_v36 : FVec F S32768x128 .f32 := Host.log main_v35
  let main_v37 : FVec F S32768x128 .f32 := addf main_v30 main_v36
  let main_v38 : FVec F S32768x128 .f32 := broadcastInDim S32768x128 ![0, 1] bcast_S32768x1_S32768x128_0_1 main_v8
  fn_part2 (F := F) main_arg0 main_arg1 main_arg3 main_arg4 main_v11 main_v20 main_v25 main_v37 main_v38

def fn {F : FTy → Type} [FloatOps F] (main_arg0 : FVec F S32768x128 .f32) (main_arg1 : FVec F S32768x128 .f32) (main_arg2 : IVec S32768 32) (main_arg3 : IVec S128 32) (main_arg4 : IVec S32768 32) : IVec S_ 1 :=
  let main_cst : FVec F S50 .f32 := fun i => FloatOps.ofBits .f32 (lit0 (S50.rowMajor i))
  let main_cst_0 : FVec F S50 .f32 := fun i => FloatOps.ofBits .f32 (lit1 (S50.rowMajor i))
  let main_cst_1 : FVec F S50 .f32 := fun i => FloatOps.ofBits .f32 (lit2 (S50.rowMajor i))
  let main_cst_2 : FVec F S50 .f32 := fun i => FloatOps.ofBits .f32 (lit3 (S50.rowMajor i))
  let main_cst_3 : FVec F S128 .f32 := constant S128 .f32 0xC09B43D5#32
  let main_v0 : FVec F S128 .f32 := fn_take (F := F) main_cst main_arg3
  let main_v1 : FVec F S32768 .f32 := fn_take_0 (F := F) main_v0 main_arg4
  let main_v2 : FVec F S32768x1 .f32 := broadcastInDim S32768x1 ![0] bcast_S32768_S32768x1_0 main_v1
  let main_v3 : FVec F S128 .f32 := fn_take (F := F) main_cst_0 main_arg3
  let main_v4 : FVec F S32768 .f32 := fn_take_0 (F := F) main_v3 main_arg4
  let main_v5 : FVec F S32768x1 .f32 := broadcastInDim S32768x1 ![0] bcast_S32768_S32768x1_0 main_v4
  let main_v6 : FVec F S128 .f32 := fn_take (F := F) main_cst_1 main_arg3
  let main_v7 : FVec F S32768 .f32 := fn_take_0 (F := F) main_v6 main_arg4
  let main_v8 : FVec F S32768x1 .f32 := broadcastInDim S32768x1 ![0] bcast_S32768_S32768x1_0 main_v7
  let main_v9 : FVec F S128 .f32 := fn_take (F := F) main_cst_2 main_arg3
  let main_v10 : FVec F S32768 .f32 := fn_take_0 (F := F) main_v9 main_arg4
  let main_v11 : FVec F S32768x1 .f32 := broadcastInDim S32768x1 ![0] bcast_S32768_S32768x1_0 main_v10
  let main_c : IVec S_ 32 := constantI S_ 32 0#32
  let main_v12 : IVec S32768 32 := broadcastInDim S32768 ![] bcast_S_S32768 main_c
  let main_v13 : IVec S32768 1 := cmpi .slt main_arg4 main_v12
  let main_c_4 : IVec S_ 32 := constantI S_ 32 128#32
  let main_v14 : IVec S32768 32 := broadcastInDim S32768 ![] bcast_S_S32768 main_c_4
  let main_v15 : IVec S32768 32 := addi main_arg4 main_v14
  let main_v16 : IVec S32768 32 := select main_v13 main_v15 main_arg4
  fn_part1 (F := F) main_arg0 main_arg1 main_arg2 main_arg3 main_arg4 main_cst_3 main_v2 main_v5 main_v8 main_v11 main_v16
-- ==== Kernel.lean ====
abbrev S32768x128 : Shape := ⟨2, ![32768, 128]⟩
abbrev S32768 : Shape := ⟨1, ![32768]⟩
abbrev S128 : Shape := ⟨1, ![128]⟩
abbrev S64x8 : Shape := ⟨2, ![64, 8]⟩
abbrev S2048 : Shape := ⟨1, ![2048]⟩
abbrev S_ : Shape := ⟨0, ![]⟩
abbrev S16 : Shape := ⟨1, ![16]⟩
abbrev S32768x1 : Shape := ⟨2, ![32768, 1]⟩
abbrev S4096x128 : Shape := ⟨2, ![4096, 128]⟩
abbrev S4096x1 : Shape := ⟨2, ![4096, 1]⟩
abbrev S1x128 : Shape := ⟨2, ![1, 128]⟩
abbrev S64x1 : Shape := ⟨2, ![64, 1]⟩
abbrev S64x3 : Shape := ⟨2, ![64, 3]⟩
abbrev S64x5 : Shape := ⟨2, ![64, 5]⟩
abbrev S1x64 : Shape := ⟨2, ![1, 64]⟩
abbrev S4096x64 : Shape := ⟨2, ![4096, 64]⟩
abbrev S4096x5 : Shape := ⟨2, ![4096, 5]⟩
abbrev S4096 : Shape := ⟨1, ![4096]⟩

abbrev nBuf : Table → Nat
  | .hbm => 20
  | .local .tc .vmem => 13
  | .local .scVector .vmem => 3
  | _ => 0

abbrev bufTy : (tb : Table) → Fin (nBuf tb) → BufTy
  | .hbm, ⟨0, _⟩ => ⟨S32768x128, .f32⟩
  | .hbm, ⟨1, _⟩ => ⟨S32768x128, .f32⟩
  | .hbm, ⟨2, _⟩ => ⟨S32768, .i32⟩
  | .hbm, ⟨3, _⟩ => ⟨S128, .i32⟩
  | .hbm, ⟨4, _⟩ => ⟨S32768, .i32⟩
  | .hbm, ⟨5, _⟩ => ⟨S64x8, .f32⟩
  | .hbm, ⟨6, _⟩ => ⟨S64x8, .f32⟩
  | .hbm, ⟨7, _⟩ => ⟨S64x8, .f32⟩
  | .hbm, ⟨8, _⟩ => ⟨S32768, .i32⟩
  | .hbm, ⟨9, _⟩ => ⟨S32768x1, .i32⟩
  | .hbm, ⟨10, _⟩ => ⟨S32768x1, .i32⟩
  | .hbm, ⟨11, _⟩ => ⟨S64x8, .f32⟩
  | .hbm, ⟨12, _⟩ => ⟨S_, .f32⟩
  | .hbm, ⟨13, _⟩ => ⟨S_, .f32⟩
  | .hbm, ⟨14, _⟩ => ⟨S64x8, .f32⟩
  | .hbm, ⟨15, _⟩ => ⟨S64x8, .f32⟩
  | .hbm, ⟨16, _⟩ => ⟨S64x8, .f32⟩
  | .hbm, ⟨17, _⟩ => ⟨S32768x128, .f32⟩
  | .hbm, ⟨18, _⟩ => ⟨S32768x1, .i32⟩
  | .hbm, ⟨19, _⟩ => ⟨S32768, .i32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S4096x1, .i32⟩
  | .local .tc .vmem, ⟨5, _⟩ => ⟨S4096x1, .i32⟩
  | .local .tc .vmem, ⟨6, _⟩ => ⟨S4096x1, .i32⟩
  | .local .tc .vmem, ⟨7, _⟩ => ⟨S4096x1, .i32⟩
  | .local .tc .vmem, ⟨8, _⟩ => ⟨S64x8, .f32⟩
  | .local .tc .vmem, ⟨9, _⟩ => ⟨S4096x128, .f32⟩
  | .local .tc .vmem, ⟨10, _⟩ => ⟨S4096x128, .f32⟩
  | .local .tc .vmem, ⟨11, _⟩ => ⟨S4096x1, .i32⟩
  | .local .tc .vmem, ⟨12, _⟩ => ⟨S4096x1, .i32⟩
  | .local .scVector .vmem, ⟨0, _⟩ => ⟨S128, .i32⟩
  | .local .scVector .vmem, ⟨1, _⟩ => ⟨S2048, .i32⟩
  | .local .scVector .vmem, ⟨2, _⟩ => ⟨S2048, .i32⟩
  | _, _ => ⟨S32768x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_arg3_scv : Ref sig .scVector := ⟨.hbm, 3, rfl⟩
abbrev main_arg4_scv : Ref sig .scVector := ⟨.hbm, 4, rfl⟩
abbrev main_v0_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let arg0 : BitVec 32 := BitVec.ofNat 32 (i 0).val
  let c0_i32 : BitVec 32 := 0#32
  let v0 : BitVec 32 := Scalar.muli arg0 c0_i32
  let v1 : BitVec 32 := Scalar.addi arg1 v0
  let c2048_i32 : BitVec 32 := 2048#32
  let v2 : BitVec 32 := Scalar.muli v1 c2048_i32
  ![v2.toNat]

def k0_chk1 (v3 : IVec S16 32) : Prop :=
  (∀ a x, ((![v3] : Fin 1 → IVec S16 32) a x).toNat < S128.size a)
theorem k0_idx1_inb : ∀ (v3 : IVec S16 32) (k0_hw1 : k0_chk1 v3), ∀ a x, ((![v3] : Fin 1 → IVec S16 32) a x).toNat < S128.size a := fun v3 k0_hw1 => k0_hw1

def k0_chk2 (v6 : IVec S16 32) : Prop :=
  (∀ a x, ((![v6] : Fin 1 → IVec S16 32) a x).toNat < S128.size a)
theorem k0_idx2_inb : ∀ (v6 : IVec S16 32) (k0_hw2 : k0_chk2 v6), ∀ a x, ((![v6] : Fin 1 → IVec S16 32) a x).toNat < S128.size a := fun v6 k0_hw2 => k0_hw2

def k0_chk3 (v9 : IVec S16 32) : Prop :=
  (∀ a x, ((![v9] : Fin 1 → IVec S16 32) a x).toNat < S128.size a)
theorem k0_idx3_inb : ∀ (v9 : IVec S16 32) (k0_hw3 : k0_chk3 v9), ∀ a x, ((![v9] : Fin 1 → IVec S16 32) a x).toNat < S128.size a := fun v9 k0_hw3 => k0_hw3

def k0_chk4 (v12 : IVec S16 32) : Prop :=
  (∀ a x, ((![v12] : Fin 1 → IVec S16 32) a x).toNat < S128.size a)
theorem k0_idx4_inb : ∀ (v12 : IVec S16 32) (k0_hw4 : k0_chk4 v12), ∀ a x, ((![v12] : Fin 1 → IVec S16 32) a x).toNat < S128.size a := fun v12 k0_hw4 => k0_hw4

def k0_chk5 (v15 : IVec S16 32) : Prop :=
  (∀ a x, ((![v15] : Fin 1 → IVec S16 32) a x).toNat < S128.size a)
theorem k0_idx5_inb : ∀ (v15 : IVec S16 32) (k0_hw5 : k0_chk5 v15), ∀ a x, ((![v15] : Fin 1 → IVec S16 32) a x).toNat < S128.size a := fun v15 k0_hw5 => k0_hw5

def k0_chk6 (v18 : IVec S16 32) : Prop :=
  (∀ a x, ((![v18] : Fin 1 → IVec S16 32) a x).toNat < S128.size a)
theorem k0_idx6_inb : ∀ (v18 : IVec S16 32) (k0_hw6 : k0_chk6 v18), ∀ a x, ((![v18] : Fin 1 → IVec S16 32) a x).toNat < S128.size a := fun v18 k0_hw6 => k0_hw6

def k0_chk7 (v21 : IVec S16 32) : Prop :=
  (∀ a x, ((![v21] : Fin 1 → IVec S16 32) a x).toNat < S128.size a)
theorem k0_idx7_inb : ∀ (v21 : IVec S16 32) (k0_hw7 : k0_chk7 v21), ∀ a x, ((![v21] : Fin 1 → IVec S16 32) a x).toNat < S128.size a := fun v21 k0_hw7 => k0_hw7

def k0_chk8 (v24 : IVec S16 32) : Prop :=
  (∀ a x, ((![v24] : Fin 1 → IVec S16 32) a x).toNat < S128.size a)
theorem k0_idx8_inb : ∀ (v24 : IVec S16 32) (k0_hw8 : k0_chk8 v24), ∀ a x, ((![v24] : Fin 1 → IVec S16 32) a x).toNat < S128.size a := fun v24 k0_hw8 => k0_hw8

def k0_chk9 (v27 : IVec S16 32) : Prop :=
  (∀ a x, ((![v27] : Fin 1 → IVec S16 32) a x).toNat < S128.size a)
theorem k0_idx9_inb : ∀ (v27 : IVec S16 32) (k0_hw9 : k0_chk9 v27), ∀ a x, ((![v27] : Fin 1 → IVec S16 32) a x).toNat < S128.size a := fun v27 k0_hw9 => k0_hw9

def k0_chk10 (v30 : IVec S16 32) : Prop :=
  (∀ a x, ((![v30] : Fin 1 → IVec S16 32) a x).toNat < S128.size a)
theorem k0_idx10_inb : ∀ (v30 : IVec S16 32) (k0_hw10 : k0_chk10 v30), ∀ a x, ((![v30] : Fin 1 → IVec S16 32) a x).toNat < S128.size a := fun v30 k0_hw10 => k0_hw10

def k0_chk11 (v33 : IVec S16 32) : Prop :=
  (∀ a x, ((![v33] : Fin 1 → IVec S16 32) a x).toNat < S128.size a)
theorem k0_idx11_inb : ∀ (v33 : IVec S16 32) (k0_hw11 : k0_chk11 v33), ∀ a x, ((![v33] : Fin 1 → IVec S16 32) a x).toNat < S128.size a := fun v33 k0_hw11 => k0_hw11

def k0_chk12 (v36 : IVec S16 32) : Prop :=
  (∀ a x, ((![v36] : Fin 1 → IVec S16 32) a x).toNat < S128.size a)
theorem k0_idx12_inb : ∀ (v36 : IVec S16 32) (k0_hw12 : k0_chk12 v36), ∀ a x, ((![v36] : Fin 1 → IVec S16 32) a x).toNat < S128.size a := fun v36 k0_hw12 => k0_hw12

def k0_chk13 (v39 : IVec S16 32) : Prop :=
  (∀ a x, ((![v39] : Fin 1 → IVec S16 32) a x).toNat < S128.size a)
theorem k0_idx13_inb : ∀ (v39 : IVec S16 32) (k0_hw13 : k0_chk13 v39), ∀ a x, ((![v39] : Fin 1 → IVec S16 32) a x).toNat < S128.size a := fun v39 k0_hw13 => k0_hw13

def k0_chk14 (v42 : IVec S16 32) : Prop :=
  (∀ a x, ((![v42] : Fin 1 → IVec S16 32) a x).toNat < S128.size a)
theorem k0_idx14_inb : ∀ (v42 : IVec S16 32) (k0_hw14 : k0_chk14 v42), ∀ a x, ((![v42] : Fin 1 → IVec S16 32) a x).toNat < S128.size a := fun v42 k0_hw14 => k0_hw14

def k0_chk15 (v45 : IVec S16 32) : Prop :=
  (∀ a x, ((![v45] : Fin 1 → IVec S16 32) a x).toNat < S128.size a)
theorem k0_idx15_inb : ∀ (v45 : IVec S16 32) (k0_hw15 : k0_chk15 v45), ∀ a x, ((![v45] : Fin 1 → IVec S16 32) a x).toNat < S128.size a := fun v45 k0_hw15 => k0_hw15

def k0_chk16 (v48 : IVec S16 32) : Prop :=
  (∀ a x, ((![v48] : Fin 1 → IVec S16 32) a x).toNat < S128.size a)
theorem k0_idx16_inb : ∀ (v48 : IVec S16 32) (k0_hw16 : k0_chk16 v48), ∀ a x, ((![v48] : Fin 1 → IVec S16 32) a x).toNat < S128.size a := fun v48 k0_hw16 => k0_hw16

def k0_chk17 (v51 : IVec S16 32) : Prop :=
  (∀ a x, ((![v51] : Fin 1 → IVec S16 32) a x).toNat < S128.size a)
theorem k0_idx17_inb : ∀ (v51 : IVec S16 32) (k0_hw17 : k0_chk17 v51), ∀ a x, ((![v51] : Fin 1 → IVec S16 32) a x).toNat < S128.size a := fun v51 k0_hw17 => k0_hw17

def k0_chk18 (v54 : IVec S16 32) : Prop :=
  (∀ a x, ((![v54] : Fin 1 → IVec S16 32) a x).toNat < S128.size a)
theorem k0_idx18_inb : ∀ (v54 : IVec S16 32) (k0_hw18 : k0_chk18 v54), ∀ a x, ((![v54] : Fin 1 → IVec S16 32) a x).toNat < S128.size a := fun v54 k0_hw18 => k0_hw18

def k0_chk19 (v57 : IVec S16 32) : Prop :=
  (∀ a x, ((![v57] : Fin 1 → IVec S16 32) a x).toNat < S128.size a)
theorem k0_idx19_inb : ∀ (v57 : IVec S16 32) (k0_hw19 : k0_chk19 v57), ∀ a x, ((![v57] : Fin 1 → IVec S16 32) a x).toNat < S128.size a := fun v57 k0_hw19 => k0_hw19

def k0_chk20 (v60 : IVec S16 32) : Prop :=
  (∀ a x, ((![v60] : Fin 1 → IVec S16 32) a x).toNat < S128.size a)
theorem k0_idx20_inb : ∀ (v60 : IVec S16 32) (k0_hw20 : k0_chk20 v60), ∀ a x, ((![v60] : Fin 1 → IVec S16 32) a x).toNat < S128.size a := fun v60 k0_hw20 => k0_hw20

def k0_chk21 (v63 : IVec S16 32) : Prop :=
  (∀ a x, ((![v63] : Fin 1 → IVec S16 32) a x).toNat < S128.size a)
theorem k0_idx21_inb : ∀ (v63 : IVec S16 32) (k0_hw21 : k0_chk21 v63), ∀ a x, ((![v63] : Fin 1 → IVec S16 32) a x).toNat < S128.size a := fun v63 k0_hw21 => k0_hw21

def k0_chk22 (v66 : IVec S16 32) : Prop :=
  (∀ a x, ((![v66] : Fin 1 → IVec S16 32) a x).toNat < S128.size a)
theorem k0_idx22_inb : ∀ (v66 : IVec S16 32) (k0_hw22 : k0_chk22 v66), ∀ a x, ((![v66] : Fin 1 → IVec S16 32) a x).toNat < S128.size a := fun v66 k0_hw22 => k0_hw22

def k0_chk23 (v69 : IVec S16 32) : Prop :=
  (∀ a x, ((![v69] : Fin 1 → IVec S16 32) a x).toNat < S128.size a)
theorem k0_idx23_inb : ∀ (v69 : IVec S16 32) (k0_hw23 : k0_chk23 v69), ∀ a x, ((![v69] : Fin 1 → IVec S16 32) a x).toNat < S128.size a := fun v69 k0_hw23 => k0_hw23

def k0_chk24 (v72 : IVec S16 32) : Prop :=
  (∀ a x, ((![v72] : Fin 1 → IVec S16 32) a x).toNat < S128.size a)
theorem k0_idx24_inb : ∀ (v72 : IVec S16 32) (k0_hw24 : k0_chk24 v72), ∀ a x, ((![v72] : Fin 1 → IVec S16 32) a x).toNat < S128.size a := fun v72 k0_hw24 => k0_hw24

def k0_chk25 (v75 : IVec S16 32) : Prop :=
  (∀ a x, ((![v75] : Fin 1 → IVec S16 32) a x).toNat < S128.size a)
theorem k0_idx25_inb : ∀ (v75 : IVec S16 32) (k0_hw25 : k0_chk25 v75), ∀ a x, ((![v75] : Fin 1 → IVec S16 32) a x).toNat < S128.size a := fun v75 k0_hw25 => k0_hw25

def k0_chk26 (v78 : IVec S16 32) : Prop :=
  (∀ a x, ((![v78] : Fin 1 → IVec S16 32) a x).toNat < S128.size a)
theorem k0_idx26_inb : ∀ (v78 : IVec S16 32) (k0_hw26 : k0_chk26 v78), ∀ a x, ((![v78] : Fin 1 → IVec S16 32) a x).toNat < S128.size a := fun v78 k0_hw26 => k0_hw26

def k0_chk27 (v81 : IVec S16 32) : Prop :=
  (∀ a x, ((![v81] : Fin 1 → IVec S16 32) a x).toNat < S128.size a)
theorem k0_idx27_inb : ∀ (v81 : IVec S16 32) (k0_hw27 : k0_chk27 v81), ∀ a x, ((![v81] : Fin 1 → IVec S16 32) a x).toNat < S128.size a := fun v81 k0_hw27 => k0_hw27

def k0_chk28 (v84 : IVec S16 32) : Prop :=
  (∀ a x, ((![v84] : Fin 1 → IVec S16 32) a x).toNat < S128.size a)
theorem k0_idx28_inb : ∀ (v84 : IVec S16 32) (k0_hw28 : k0_chk28 v84), ∀ a x, ((![v84] : Fin 1 → IVec S16 32) a x).toNat < S128.size a := fun v84 k0_hw28 => k0_hw28

def k0_chk29 (v87 : IVec S16 32) : Prop :=
  (∀ a x, ((![v87] : Fin 1 → IVec S16 32) a x).toNat < S128.size a)
theorem k0_idx29_inb : ∀ (v87 : IVec S16 32) (k0_hw29 : k0_chk29 v87), ∀ a x, ((![v87] : Fin 1 → IVec S16 32) a x).toNat < S128.size a := fun v87 k0_hw29 => k0_hw29

def k0_chk30 (v90 : IVec S16 32) : Prop :=
  (∀ a x, ((![v90] : Fin 1 → IVec S16 32) a x).toNat < S128.size a)
theorem k0_idx30_inb : ∀ (v90 : IVec S16 32) (k0_hw30 : k0_chk30 v90), ∀ a x, ((![v90] : Fin 1 → IVec S16 32) a x).toNat < S128.size a := fun v90 k0_hw30 => k0_hw30

def k0_chk31 (v93 : IVec S16 32) : Prop :=
  (∀ a x, ((![v93] : Fin 1 → IVec S16 32) a x).toNat < S128.size a)
theorem k0_idx31_inb : ∀ (v93 : IVec S16 32) (k0_hw31 : k0_chk31 v93), ∀ a x, ((![v93] : Fin 1 → IVec S16 32) a x).toNat < S128.size a := fun v93 k0_hw31 => k0_hw31

def k0_chk32 (v96 : IVec S16 32) : Prop :=
  (∀ a x, ((![v96] : Fin 1 → IVec S16 32) a x).toNat < S128.size a)
theorem k0_idx32_inb : ∀ (v96 : IVec S16 32) (k0_hw32 : k0_chk32 v96), ∀ a x, ((![v96] : Fin 1 → IVec S16 32) a x).toNat < S128.size a := fun v96 k0_hw32 => k0_hw32

def k0_chk33 (v99 : IVec S16 32) : Prop :=
  (∀ a x, ((![v99] : Fin 1 → IVec S16 32) a x).toNat < S128.size a)
theorem k0_idx33_inb : ∀ (v99 : IVec S16 32) (k0_hw33 : k0_chk33 v99), ∀ a x, ((![v99] : Fin 1 → IVec S16 32) a x).toNat < S128.size a := fun v99 k0_hw33 => k0_hw33

def k0_chk34 (v102 : IVec S16 32) : Prop :=
  (∀ a x, ((![v102] : Fin 1 → IVec S16 32) a x).toNat < S128.size a)
theorem k0_idx34_inb : ∀ (v102 : IVec S16 32) (k0_hw34 : k0_chk34 v102), ∀ a x, ((![v102] : Fin 1 → IVec S16 32) a x).toNat < S128.size a := fun v102 k0_hw34 => k0_hw34

def k0_chk35 (v105 : IVec S16 32) : Prop :=
  (∀ a x, ((![v105] : Fin 1 → IVec S16 32) a x).toNat < S128.size a)
theorem k0_idx35_inb : ∀ (v105 : IVec S16 32) (k0_hw35 : k0_chk35 v105), ∀ a x, ((![v105] : Fin 1 → IVec S16 32) a x).toNat < S128.size a := fun v105 k0_hw35 => k0_hw35

def k0_chk36 (v108 : IVec S16 32) : Prop :=
  (∀ a x, ((![v108] : Fin 1 → IVec S16 32) a x).toNat < S128.size a)
theorem k0_idx36_inb : ∀ (v108 : IVec S16 32) (k0_hw36 : k0_chk36 v108), ∀ a x, ((![v108] : Fin 1 → IVec S16 32) a x).toNat < S128.size a := fun v108 k0_hw36 => k0_hw36

def k0_chk37 (v111 : IVec S16 32) : Prop :=
  (∀ a x, ((![v111] : Fin 1 → IVec S16 32) a x).toNat < S128.size a)
theorem k0_idx37_inb : ∀ (v111 : IVec S16 32) (k0_hw37 : k0_chk37 v111), ∀ a x, ((![v111] : Fin 1 → IVec S16 32) a x).toNat < S128.size a := fun v111 k0_hw37 => k0_hw37

def k0_chk38 (v114 : IVec S16 32) : Prop :=
  (∀ a x, ((![v114] : Fin 1 → IVec S16 32) a x).toNat < S128.size a)
theorem k0_idx38_inb : ∀ (v114 : IVec S16 32) (k0_hw38 : k0_chk38 v114), ∀ a x, ((![v114] : Fin 1 → IVec S16 32) a x).toNat < S128.size a := fun v114 k0_hw38 => k0_hw38

def k0_chk39 (v117 : IVec S16 32) : Prop :=
  (∀ a x, ((![v117] : Fin 1 → IVec S16 32) a x).toNat < S128.size a)
theorem k0_idx39_inb : ∀ (v117 : IVec S16 32) (k0_hw39 : k0_chk39 v117), ∀ a x, ((![v117] : Fin 1 → IVec S16 32) a x).toNat < S128.size a := fun v117 k0_hw39 => k0_hw39

def k0_chk40 (v120 : IVec S16 32) : Prop :=
  (∀ a x, ((![v120] : Fin 1 → IVec S16 32) a x).toNat < S128.size a)
theorem k0_idx40_inb : ∀ (v120 : IVec S16 32) (k0_hw40 : k0_chk40 v120), ∀ a x, ((![v120] : Fin 1 → IVec S16 32) a x).toNat < S128.size a := fun v120 k0_hw40 => k0_hw40

def k0_chk41 (v123 : IVec S16 32) : Prop :=
  (∀ a x, ((![v123] : Fin 1 → IVec S16 32) a x).toNat < S128.size a)
theorem k0_idx41_inb : ∀ (v123 : IVec S16 32) (k0_hw41 : k0_chk41 v123), ∀ a x, ((![v123] : Fin 1 → IVec S16 32) a x).toNat < S128.size a := fun v123 k0_hw41 => k0_hw41

def k0_chk42 (v126 : IVec S16 32) : Prop :=
  (∀ a x, ((![v126] : Fin 1 → IVec S16 32) a x).toNat < S128.size a)
theorem k0_idx42_inb : ∀ (v126 : IVec S16 32) (k0_hw42 : k0_chk42 v126), ∀ a x, ((![v126] : Fin 1 → IVec S16 32) a x).toNat < S128.size a := fun v126 k0_hw42 => k0_hw42

def k0_chk43 (v129 : IVec S16 32) : Prop :=
  (∀ a x, ((![v129] : Fin 1 → IVec S16 32) a x).toNat < S128.size a)
theorem k0_idx43_inb : ∀ (v129 : IVec S16 32) (k0_hw43 : k0_chk43 v129), ∀ a x, ((![v129] : Fin 1 → IVec S16 32) a x).toNat < S128.size a := fun v129 k0_hw43 => k0_hw43

def k0_chk44 (v132 : IVec S16 32) : Prop :=
  (∀ a x, ((![v132] : Fin 1 → IVec S16 32) a x).toNat < S128.size a)
theorem k0_idx44_inb : ∀ (v132 : IVec S16 32) (k0_hw44 : k0_chk44 v132), ∀ a x, ((![v132] : Fin 1 → IVec S16 32) a x).toNat < S128.size a := fun v132 k0_hw44 => k0_hw44

def k0_chk45 (v135 : IVec S16 32) : Prop :=
  (∀ a x, ((![v135] : Fin 1 → IVec S16 32) a x).toNat < S128.size a)
theorem k0_idx45_inb : ∀ (v135 : IVec S16 32) (k0_hw45 : k0_chk45 v135), ∀ a x, ((![v135] : Fin 1 → IVec S16 32) a x).toNat < S128.size a := fun v135 k0_hw45 => k0_hw45

def k0_chk46 (v138 : IVec S16 32) : Prop :=
  (∀ a x, ((![v138] : Fin 1 → IVec S16 32) a x).toNat < S128.size a)
theorem k0_idx46_inb : ∀ (v138 : IVec S16 32) (k0_hw46 : k0_chk46 v138), ∀ a x, ((![v138] : Fin 1 → IVec S16 32) a x).toNat < S128.size a := fun v138 k0_hw46 => k0_hw46

def k0_chk47 (v141 : IVec S16 32) : Prop :=
  (∀ a x, ((![v141] : Fin 1 → IVec S16 32) a x).toNat < S128.size a)
theorem k0_idx47_inb : ∀ (v141 : IVec S16 32) (k0_hw47 : k0_chk47 v141), ∀ a x, ((![v141] : Fin 1 → IVec S16 32) a x).toNat < S128.size a := fun v141 k0_hw47 => k0_hw47

def k0_chk48 (v144 : IVec S16 32) : Prop :=
  (∀ a x, ((![v144] : Fin 1 → IVec S16 32) a x).toNat < S128.size a)
theorem k0_idx48_inb : ∀ (v144 : IVec S16 32) (k0_hw48 : k0_chk48 v144), ∀ a x, ((![v144] : Fin 1 → IVec S16 32) a x).toNat < S128.size a := fun v144 k0_hw48 => k0_hw48

def k0_chk49 (v147 : IVec S16 32) : Prop :=
  (∀ a x, ((![v147] : Fin 1 → IVec S16 32) a x).toNat < S128.size a)
theorem k0_idx49_inb : ∀ (v147 : IVec S16 32) (k0_hw49 : k0_chk49 v147), ∀ a x, ((![v147] : Fin 1 → IVec S16 32) a x).toNat < S128.size a := fun v147 k0_hw49 => k0_hw49

def k0_chk50 (v150 : IVec S16 32) : Prop :=
  (∀ a x, ((![v150] : Fin 1 → IVec S16 32) a x).toNat < S128.size a)
theorem k0_idx50_inb : ∀ (v150 : IVec S16 32) (k0_hw50 : k0_chk50 v150), ∀ a x, ((![v150] : Fin 1 → IVec S16 32) a x).toNat < S128.size a := fun v150 k0_hw50 => k0_hw50

def k0_chk51 (v153 : IVec S16 32) : Prop :=
  (∀ a x, ((![v153] : Fin 1 → IVec S16 32) a x).toNat < S128.size a)
theorem k0_idx51_inb : ∀ (v153 : IVec S16 32) (k0_hw51 : k0_chk51 v153), ∀ a x, ((![v153] : Fin 1 → IVec S16 32) a x).toNat < S128.size a := fun v153 k0_hw51 => k0_hw51

def k0_chk52 (v156 : IVec S16 32) : Prop :=
  (∀ a x, ((![v156] : Fin 1 → IVec S16 32) a x).toNat < S128.size a)
theorem k0_idx52_inb : ∀ (v156 : IVec S16 32) (k0_hw52 : k0_chk52 v156), ∀ a x, ((![v156] : Fin 1 → IVec S16 32) a x).toNat < S128.size a := fun v156 k0_hw52 => k0_hw52

def k0_chk53 (v159 : IVec S16 32) : Prop :=
  (∀ a x, ((![v159] : Fin 1 → IVec S16 32) a x).toNat < S128.size a)
theorem k0_idx53_inb : ∀ (v159 : IVec S16 32) (k0_hw53 : k0_chk53 v159), ∀ a x, ((![v159] : Fin 1 → IVec S16 32) a x).toNat < S128.size a := fun v159 k0_hw53 => k0_hw53

def k0_chk54 (v162 : IVec S16 32) : Prop :=
  (∀ a x, ((![v162] : Fin 1 → IVec S16 32) a x).toNat < S128.size a)
theorem k0_idx54_inb : ∀ (v162 : IVec S16 32) (k0_hw54 : k0_chk54 v162), ∀ a x, ((![v162] : Fin 1 → IVec S16 32) a x).toNat < S128.size a := fun v162 k0_hw54 => k0_hw54

def k0_chk55 (v165 : IVec S16 32) : Prop :=
  (∀ a x, ((![v165] : Fin 1 → IVec S16 32) a x).toNat < S128.size a)
theorem k0_idx55_inb : ∀ (v165 : IVec S16 32) (k0_hw55 : k0_chk55 v165), ∀ a x, ((![v165] : Fin 1 → IVec S16 32) a x).toNat < S128.size a := fun v165 k0_hw55 => k0_hw55

def k0_chk56 (v168 : IVec S16 32) : Prop :=
  (∀ a x, ((![v168] : Fin 1 → IVec S16 32) a x).toNat < S128.size a)
theorem k0_idx56_inb : ∀ (v168 : IVec S16 32) (k0_hw56 : k0_chk56 v168), ∀ a x, ((![v168] : Fin 1 → IVec S16 32) a x).toNat < S128.size a := fun v168 k0_hw56 => k0_hw56

def k0_chk57 (v171 : IVec S16 32) : Prop :=
  (∀ a x, ((![v171] : Fin 1 → IVec S16 32) a x).toNat < S128.size a)
theorem k0_idx57_inb : ∀ (v171 : IVec S16 32) (k0_hw57 : k0_chk57 v171), ∀ a x, ((![v171] : Fin 1 → IVec S16 32) a x).toNat < S128.size a := fun v171 k0_hw57 => k0_hw57

def k0_chk58 (v174 : IVec S16 32) : Prop :=
  (∀ a x, ((![v174] : Fin 1 → IVec S16 32) a x).toNat < S128.size a)
theorem k0_idx58_inb : ∀ (v174 : IVec S16 32) (k0_hw58 : k0_chk58 v174), ∀ a x, ((![v174] : Fin 1 → IVec S16 32) a x).toNat < S128.size a := fun v174 k0_hw58 => k0_hw58

def k0_chk59 (v177 : IVec S16 32) : Prop :=
  (∀ a x, ((![v177] : Fin 1 → IVec S16 32) a x).toNat < S128.size a)
theorem k0_idx59_inb : ∀ (v177 : IVec S16 32) (k0_hw59 : k0_chk59 v177), ∀ a x, ((![v177] : Fin 1 → IVec S16 32) a x).toNat < S128.size a := fun v177 k0_hw59 => k0_hw59

def k0_chk60 (v180 : IVec S16 32) : Prop :=
  (∀ a x, ((![v180] : Fin 1 → IVec S16 32) a x).toNat < S128.size a)
theorem k0_idx60_inb : ∀ (v180 : IVec S16 32) (k0_hw60 : k0_chk60 v180), ∀ a x, ((![v180] : Fin 1 → IVec S16 32) a x).toNat < S128.size a := fun v180 k0_hw60 => k0_hw60

def k0_chk61 (v183 : IVec S16 32) : Prop :=
  (∀ a x, ((![v183] : Fin 1 → IVec S16 32) a x).toNat < S128.size a)
theorem k0_idx61_inb : ∀ (v183 : IVec S16 32) (k0_hw61 : k0_chk61 v183), ∀ a x, ((![v183] : Fin 1 → IVec S16 32) a x).toNat < S128.size a := fun v183 k0_hw61 => k0_hw61

def k0_chk62 (v186 : IVec S16 32) : Prop :=
  (∀ a x, ((![v186] : Fin 1 → IVec S16 32) a x).toNat < S128.size a)
theorem k0_idx62_inb : ∀ (v186 : IVec S16 32) (k0_hw62 : k0_chk62 v186), ∀ a x, ((![v186] : Fin 1 → IVec S16 32) a x).toNat < S128.size a := fun v186 k0_hw62 => k0_hw62

def k0_chk63 (v189 : IVec S16 32) : Prop :=
  (∀ a x, ((![v189] : Fin 1 → IVec S16 32) a x).toNat < S128.size a)
theorem k0_idx63_inb : ∀ (v189 : IVec S16 32) (k0_hw63 : k0_chk63 v189), ∀ a x, ((![v189] : Fin 1 → IVec S16 32) a x).toNat < S128.size a := fun v189 k0_hw63 => k0_hw63

def k0_chk64 (v192 : IVec S16 32) : Prop :=
  (∀ a x, ((![v192] : Fin 1 → IVec S16 32) a x).toNat < S128.size a)
theorem k0_idx64_inb : ∀ (v192 : IVec S16 32) (k0_hw64 : k0_chk64 v192), ∀ a x, ((![v192] : Fin 1 → IVec S16 32) a x).toNat < S128.size a := fun v192 k0_hw64 => k0_hw64

def k0_chk65 (v195 : IVec S16 32) : Prop :=
  (∀ a x, ((![v195] : Fin 1 → IVec S16 32) a x).toNat < S128.size a)
theorem k0_idx65_inb : ∀ (v195 : IVec S16 32) (k0_hw65 : k0_chk65 v195), ∀ a x, ((![v195] : Fin 1 → IVec S16 32) a x).toNat < S128.size a := fun v195 k0_hw65 => k0_hw65

def k0_chk66 (v198 : IVec S16 32) : Prop :=
  (∀ a x, ((![v198] : Fin 1 → IVec S16 32) a x).toNat < S128.size a)
theorem k0_idx66_inb : ∀ (v198 : IVec S16 32) (k0_hw66 : k0_chk66 v198), ∀ a x, ((![v198] : Fin 1 → IVec S16 32) a x).toNat < S128.size a := fun v198 k0_hw66 => k0_hw66

def k0_chk67 (v201 : IVec S16 32) : Prop :=
  (∀ a x, ((![v201] : Fin 1 → IVec S16 32) a x).toNat < S128.size a)
theorem k0_idx67_inb : ∀ (v201 : IVec S16 32) (k0_hw67 : k0_chk67 v201), ∀ a x, ((![v201] : Fin 1 → IVec S16 32) a x).toNat < S128.size a := fun v201 k0_hw67 => k0_hw67

def k0_chk68 (v204 : IVec S16 32) : Prop :=
  (∀ a x, ((![v204] : Fin 1 → IVec S16 32) a x).toNat < S128.size a)
theorem k0_idx68_inb : ∀ (v204 : IVec S16 32) (k0_hw68 : k0_chk68 v204), ∀ a x, ((![v204] : Fin 1 → IVec S16 32) a x).toNat < S128.size a := fun v204 k0_hw68 => k0_hw68

def k0_chk69 (v207 : IVec S16 32) : Prop :=
  (∀ a x, ((![v207] : Fin 1 → IVec S16 32) a x).toNat < S128.size a)
theorem k0_idx69_inb : ∀ (v207 : IVec S16 32) (k0_hw69 : k0_chk69 v207), ∀ a x, ((![v207] : Fin 1 → IVec S16 32) a x).toNat < S128.size a := fun v207 k0_hw69 => k0_hw69

def k0_chk70 (v210 : IVec S16 32) : Prop :=
  (∀ a x, ((![v210] : Fin 1 → IVec S16 32) a x).toNat < S128.size a)
theorem k0_idx70_inb : ∀ (v210 : IVec S16 32) (k0_hw70 : k0_chk70 v210), ∀ a x, ((![v210] : Fin 1 → IVec S16 32) a x).toNat < S128.size a := fun v210 k0_hw70 => k0_hw70

def k0_chk71 (v213 : IVec S16 32) : Prop :=
  (∀ a x, ((![v213] : Fin 1 → IVec S16 32) a x).toNat < S128.size a)
theorem k0_idx71_inb : ∀ (v213 : IVec S16 32) (k0_hw71 : k0_chk71 v213), ∀ a x, ((![v213] : Fin 1 → IVec S16 32) a x).toNat < S128.size a := fun v213 k0_hw71 => k0_hw71

def k0_chk72 (v216 : IVec S16 32) : Prop :=
  (∀ a x, ((![v216] : Fin 1 → IVec S16 32) a x).toNat < S128.size a)
theorem k0_idx72_inb : ∀ (v216 : IVec S16 32) (k0_hw72 : k0_chk72 v216), ∀ a x, ((![v216] : Fin 1 → IVec S16 32) a x).toNat < S128.size a := fun v216 k0_hw72 => k0_hw72

def k0_chk73 (v219 : IVec S16 32) : Prop :=
  (∀ a x, ((![v219] : Fin 1 → IVec S16 32) a x).toNat < S128.size a)
theorem k0_idx73_inb : ∀ (v219 : IVec S16 32) (k0_hw73 : k0_chk73 v219), ∀ a x, ((![v219] : Fin 1 → IVec S16 32) a x).toNat < S128.size a := fun v219 k0_hw73 => k0_hw73

def k0_chk74 (v222 : IVec S16 32) : Prop :=
  (∀ a x, ((![v222] : Fin 1 → IVec S16 32) a x).toNat < S128.size a)
theorem k0_idx74_inb : ∀ (v222 : IVec S16 32) (k0_hw74 : k0_chk74 v222), ∀ a x, ((![v222] : Fin 1 → IVec S16 32) a x).toNat < S128.size a := fun v222 k0_hw74 => k0_hw74

def k0_chk75 (v225 : IVec S16 32) : Prop :=
  (∀ a x, ((![v225] : Fin 1 → IVec S16 32) a x).toNat < S128.size a)
theorem k0_idx75_inb : ∀ (v225 : IVec S16 32) (k0_hw75 : k0_chk75 v225), ∀ a x, ((![v225] : Fin 1 → IVec S16 32) a x).toNat < S128.size a := fun v225 k0_hw75 => k0_hw75

def k0_chk76 (v228 : IVec S16 32) : Prop :=
  (∀ a x, ((![v228] : Fin 1 → IVec S16 32) a x).toNat < S128.size a)
theorem k0_idx76_inb : ∀ (v228 : IVec S16 32) (k0_hw76 : k0_chk76 v228), ∀ a x, ((![v228] : Fin 1 → IVec S16 32) a x).toNat < S128.size a := fun v228 k0_hw76 => k0_hw76

def k0_chk77 (v231 : IVec S16 32) : Prop :=
  (∀ a x, ((![v231] : Fin 1 → IVec S16 32) a x).toNat < S128.size a)
theorem k0_idx77_inb : ∀ (v231 : IVec S16 32) (k0_hw77 : k0_chk77 v231), ∀ a x, ((![v231] : Fin 1 → IVec S16 32) a x).toNat < S128.size a := fun v231 k0_hw77 => k0_hw77

def k0_chk78 (v234 : IVec S16 32) : Prop :=
  (∀ a x, ((![v234] : Fin 1 → IVec S16 32) a x).toNat < S128.size a)
theorem k0_idx78_inb : ∀ (v234 : IVec S16 32) (k0_hw78 : k0_chk78 v234), ∀ a x, ((![v234] : Fin 1 → IVec S16 32) a x).toNat < S128.size a := fun v234 k0_hw78 => k0_hw78

def k0_chk79 (v237 : IVec S16 32) : Prop :=
  (∀ a x, ((![v237] : Fin 1 → IVec S16 32) a x).toNat < S128.size a)
theorem k0_idx79_inb : ∀ (v237 : IVec S16 32) (k0_hw79 : k0_chk79 v237), ∀ a x, ((![v237] : Fin 1 → IVec S16 32) a x).toNat < S128.size a := fun v237 k0_hw79 => k0_hw79

def k0_chk80 (v240 : IVec S16 32) : Prop :=
  (∀ a x, ((![v240] : Fin 1 → IVec S16 32) a x).toNat < S128.size a)
theorem k0_idx80_inb : ∀ (v240 : IVec S16 32) (k0_hw80 : k0_chk80 v240), ∀ a x, ((![v240] : Fin 1 → IVec S16 32) a x).toNat < S128.size a := fun v240 k0_hw80 => k0_hw80

def k0_chk81 (v243 : IVec S16 32) : Prop :=
  (∀ a x, ((![v243] : Fin 1 → IVec S16 32) a x).toNat < S128.size a)
theorem k0_idx81_inb : ∀ (v243 : IVec S16 32) (k0_hw81 : k0_chk81 v243), ∀ a x, ((![v243] : Fin 1 → IVec S16 32) a x).toNat < S128.size a := fun v243 k0_hw81 => k0_hw81

def k0_chk82 (v246 : IVec S16 32) : Prop :=
  (∀ a x, ((![v246] : Fin 1 → IVec S16 32) a x).toNat < S128.size a)
theorem k0_idx82_inb : ∀ (v246 : IVec S16 32) (k0_hw82 : k0_chk82 v246), ∀ a x, ((![v246] : Fin 1 → IVec S16 32) a x).toNat < S128.size a := fun v246 k0_hw82 => k0_hw82

def k0_chk83 (v249 : IVec S16 32) : Prop :=
  (∀ a x, ((![v249] : Fin 1 → IVec S16 32) a x).toNat < S128.size a)
theorem k0_idx83_inb : ∀ (v249 : IVec S16 32) (k0_hw83 : k0_chk83 v249), ∀ a x, ((![v249] : Fin 1 → IVec S16 32) a x).toNat < S128.size a := fun v249 k0_hw83 => k0_hw83

def k0_chk84 (v252 : IVec S16 32) : Prop :=
  (∀ a x, ((![v252] : Fin 1 → IVec S16 32) a x).toNat < S128.size a)
theorem k0_idx84_inb : ∀ (v252 : IVec S16 32) (k0_hw84 : k0_chk84 v252), ∀ a x, ((![v252] : Fin 1 → IVec S16 32) a x).toNat < S128.size a := fun v252 k0_hw84 => k0_hw84

def k0_chk85 (v255 : IVec S16 32) : Prop :=
  (∀ a x, ((![v255] : Fin 1 → IVec S16 32) a x).toNat < S128.size a)
theorem k0_idx85_inb : ∀ (v255 : IVec S16 32) (k0_hw85 : k0_chk85 v255), ∀ a x, ((![v255] : Fin 1 → IVec S16 32) a x).toNat < S128.size a := fun v255 k0_hw85 => k0_hw85

def k0_chk86 (v258 : IVec S16 32) : Prop :=
  (∀ a x, ((![v258] : Fin 1 → IVec S16 32) a x).toNat < S128.size a)
theorem k0_idx86_inb : ∀ (v258 : IVec S16 32) (k0_hw86 : k0_chk86 v258), ∀ a x, ((![v258] : Fin 1 → IVec S16 32) a x).toNat < S128.size a := fun v258 k0_hw86 => k0_hw86

def k0_chk87 (v261 : IVec S16 32) : Prop :=
  (∀ a x, ((![v261] : Fin 1 → IVec S16 32) a x).toNat < S128.size a)
theorem k0_idx87_inb : ∀ (v261 : IVec S16 32) (k0_hw87 : k0_chk87 v261), ∀ a x, ((![v261] : Fin 1 → IVec S16 32) a x).toNat < S128.size a := fun v261 k0_hw87 => k0_hw87

def k0_chk88 (v264 : IVec S16 32) : Prop :=
  (∀ a x, ((![v264] : Fin 1 → IVec S16 32) a x).toNat < S128.size a)
theorem k0_idx88_inb : ∀ (v264 : IVec S16 32) (k0_hw88 : k0_chk88 v264), ∀ a x, ((![v264] : Fin 1 → IVec S16 32) a x).toNat < S128.size a := fun v264 k0_hw88 => k0_hw88

def k0_chk89 (v267 : IVec S16 32) : Prop :=
  (∀ a x, ((![v267] : Fin 1 → IVec S16 32) a x).toNat < S128.size a)
theorem k0_idx89_inb : ∀ (v267 : IVec S16 32) (k0_hw89 : k0_chk89 v267), ∀ a x, ((![v267] : Fin 1 → IVec S16 32) a x).toNat < S128.size a := fun v267 k0_hw89 => k0_hw89

def k0_chk90 (v270 : IVec S16 32) : Prop :=
  (∀ a x, ((![v270] : Fin 1 → IVec S16 32) a x).toNat < S128.size a)
theorem k0_idx90_inb : ∀ (v270 : IVec S16 32) (k0_hw90 : k0_chk90 v270), ∀ a x, ((![v270] : Fin 1 → IVec S16 32) a x).toNat < S128.size a := fun v270 k0_hw90 => k0_hw90

def k0_chk91 (v273 : IVec S16 32) : Prop :=
  (∀ a x, ((![v273] : Fin 1 → IVec S16 32) a x).toNat < S128.size a)
theorem k0_idx91_inb : ∀ (v273 : IVec S16 32) (k0_hw91 : k0_chk91 v273), ∀ a x, ((![v273] : Fin 1 → IVec S16 32) a x).toNat < S128.size a := fun v273 k0_hw91 => k0_hw91

def k0_chk92 (v276 : IVec S16 32) : Prop :=
  (∀ a x, ((![v276] : Fin 1 → IVec S16 32) a x).toNat < S128.size a)
theorem k0_idx92_inb : ∀ (v276 : IVec S16 32) (k0_hw92 : k0_chk92 v276), ∀ a x, ((![v276] : Fin 1 → IVec S16 32) a x).toNat < S128.size a := fun v276 k0_hw92 => k0_hw92

def k0_chk93 (v279 : IVec S16 32) : Prop :=
  (∀ a x, ((![v279] : Fin 1 → IVec S16 32) a x).toNat < S128.size a)
theorem k0_idx93_inb : ∀ (v279 : IVec S16 32) (k0_hw93 : k0_chk93 v279), ∀ a x, ((![v279] : Fin 1 → IVec S16 32) a x).toNat < S128.size a := fun v279 k0_hw93 => k0_hw93

def k0_chk94 (v282 : IVec S16 32) : Prop :=
  (∀ a x, ((![v282] : Fin 1 → IVec S16 32) a x).toNat < S128.size a)
theorem k0_idx94_inb : ∀ (v282 : IVec S16 32) (k0_hw94 : k0_chk94 v282), ∀ a x, ((![v282] : Fin 1 → IVec S16 32) a x).toNat < S128.size a := fun v282 k0_hw94 => k0_hw94

def k0_chk95 (v285 : IVec S16 32) : Prop :=
  (∀ a x, ((![v285] : Fin 1 → IVec S16 32) a x).toNat < S128.size a)
theorem k0_idx95_inb : ∀ (v285 : IVec S16 32) (k0_hw95 : k0_chk95 v285), ∀ a x, ((![v285] : Fin 1 → IVec S16 32) a x).toNat < S128.size a := fun v285 k0_hw95 => k0_hw95

def k0_chk96 (v288 : IVec S16 32) : Prop :=
  (∀ a x, ((![v288] : Fin 1 → IVec S16 32) a x).toNat < S128.size a)
theorem k0_idx96_inb : ∀ (v288 : IVec S16 32) (k0_hw96 : k0_chk96 v288), ∀ a x, ((![v288] : Fin 1 → IVec S16 32) a x).toNat < S128.size a := fun v288 k0_hw96 => k0_hw96

def k0_chk97 (v291 : IVec S16 32) : Prop :=
  (∀ a x, ((![v291] : Fin 1 → IVec S16 32) a x).toNat < S128.size a)
theorem k0_idx97_inb : ∀ (v291 : IVec S16 32) (k0_hw97 : k0_chk97 v291), ∀ a x, ((![v291] : Fin 1 → IVec S16 32) a x).toNat < S128.size a := fun v291 k0_hw97 => k0_hw97

def k0_chk98 (v294 : IVec S16 32) : Prop :=
  (∀ a x, ((![v294] : Fin 1 → IVec S16 32) a x).toNat < S128.size a)
theorem k0_idx98_inb : ∀ (v294 : IVec S16 32) (k0_hw98 : k0_chk98 v294), ∀ a x, ((![v294] : Fin 1 → IVec S16 32) a x).toNat < S128.size a := fun v294 k0_hw98 => k0_hw98

def k0_chk99 (v297 : IVec S16 32) : Prop :=
  (∀ a x, ((![v297] : Fin 1 → IVec S16 32) a x).toNat < S128.size a)
theorem k0_idx99_inb : ∀ (v297 : IVec S16 32) (k0_hw99 : k0_chk99 v297), ∀ a x, ((![v297] : Fin 1 → IVec S16 32) a x).toNat < S128.size a := fun v297 k0_hw99 => k0_hw99

def k0_chk100 (v300 : IVec S16 32) : Prop :=
  (∀ a x, ((![v300] : Fin 1 → IVec S16 32) a x).toNat < S128.size a)
theorem k0_idx100_inb : ∀ (v300 : IVec S16 32) (k0_hw100 : k0_chk100 v300), ∀ a x, ((![v300] : Fin 1 → IVec S16 32) a x).toNat < S128.size a := fun v300 k0_hw100 => k0_hw100

def k0_chk101 (v303 : IVec S16 32) : Prop :=
  (∀ a x, ((![v303] : Fin 1 → IVec S16 32) a x).toNat < S128.size a)
theorem k0_idx101_inb : ∀ (v303 : IVec S16 32) (k0_hw101 : k0_chk101 v303), ∀ a x, ((![v303] : Fin 1 → IVec S16 32) a x).toNat < S128.size a := fun v303 k0_hw101 => k0_hw101

def k0_chk102 (v306 : IVec S16 32) : Prop :=
  (∀ a x, ((![v306] : Fin 1 → IVec S16 32) a x).toNat < S128.size a)
theorem k0_idx102_inb : ∀ (v306 : IVec S16 32) (k0_hw102 : k0_chk102 v306), ∀ a x, ((![v306] : Fin 1 → IVec S16 32) a x).toNat < S128.size a := fun v306 k0_hw102 => k0_hw102

def k0_chk103 (v309 : IVec S16 32) : Prop :=
  (∀ a x, ((![v309] : Fin 1 → IVec S16 32) a x).toNat < S128.size a)
theorem k0_idx103_inb : ∀ (v309 : IVec S16 32) (k0_hw103 : k0_chk103 v309), ∀ a x, ((![v309] : Fin 1 → IVec S16 32) a x).toNat < S128.size a := fun v309 k0_hw103 => k0_hw103

def k0_chk104 (v312 : IVec S16 32) : Prop :=
  (∀ a x, ((![v312] : Fin 1 → IVec S16 32) a x).toNat < S128.size a)
theorem k0_idx104_inb : ∀ (v312 : IVec S16 32) (k0_hw104 : k0_chk104 v312), ∀ a x, ((![v312] : Fin 1 → IVec S16 32) a x).toNat < S128.size a := fun v312 k0_hw104 => k0_hw104

def k0_chk105 (v315 : IVec S16 32) : Prop :=
  (∀ a x, ((![v315] : Fin 1 → IVec S16 32) a x).toNat < S128.size a)
theorem k0_idx105_inb : ∀ (v315 : IVec S16 32) (k0_hw105 : k0_chk105 v315), ∀ a x, ((![v315] : Fin 1 → IVec S16 32) a x).toNat < S128.size a := fun v315 k0_hw105 => k0_hw105

def k0_chk106 (v318 : IVec S16 32) : Prop :=
  (∀ a x, ((![v318] : Fin 1 → IVec S16 32) a x).toNat < S128.size a)
theorem k0_idx106_inb : ∀ (v318 : IVec S16 32) (k0_hw106 : k0_chk106 v318), ∀ a x, ((![v318] : Fin 1 → IVec S16 32) a x).toNat < S128.size a := fun v318 k0_hw106 => k0_hw106

def k0_chk107 (v321 : IVec S16 32) : Prop :=
  (∀ a x, ((![v321] : Fin 1 → IVec S16 32) a x).toNat < S128.size a)
theorem k0_idx107_inb : ∀ (v321 : IVec S16 32) (k0_hw107 : k0_chk107 v321), ∀ a x, ((![v321] : Fin 1 → IVec S16 32) a x).toNat < S128.size a := fun v321 k0_hw107 => k0_hw107

def k0_chk108 (v324 : IVec S16 32) : Prop :=
  (∀ a x, ((![v324] : Fin 1 → IVec S16 32) a x).toNat < S128.size a)
theorem k0_idx108_inb : ∀ (v324 : IVec S16 32) (k0_hw108 : k0_chk108 v324), ∀ a x, ((![v324] : Fin 1 → IVec S16 32) a x).toNat < S128.size a := fun v324 k0_hw108 => k0_hw108

def k0_chk109 (v327 : IVec S16 32) : Prop :=
  (∀ a x, ((![v327] : Fin 1 → IVec S16 32) a x).toNat < S128.size a)
theorem k0_idx109_inb : ∀ (v327 : IVec S16 32) (k0_hw109 : k0_chk109 v327), ∀ a x, ((![v327] : Fin 1 → IVec S16 32) a x).toNat < S128.size a := fun v327 k0_hw109 => k0_hw109

def k0_chk110 (v330 : IVec S16 32) : Prop :=
  (∀ a x, ((![v330] : Fin 1 → IVec S16 32) a x).toNat < S128.size a)
theorem k0_idx110_inb : ∀ (v330 : IVec S16 32) (k0_hw110 : k0_chk110 v330), ∀ a x, ((![v330] : Fin 1 → IVec S16 32) a x).toNat < S128.size a := fun v330 k0_hw110 => k0_hw110

def k0_chk111 (v333 : IVec S16 32) : Prop :=
  (∀ a x, ((![v333] : Fin 1 → IVec S16 32) a x).toNat < S128.size a)
theorem k0_idx111_inb : ∀ (v333 : IVec S16 32) (k0_hw111 : k0_chk111 v333), ∀ a x, ((![v333] : Fin 1 → IVec S16 32) a x).toNat < S128.size a := fun v333 k0_hw111 => k0_hw111

def k0_chk112 (v336 : IVec S16 32) : Prop :=
  (∀ a x, ((![v336] : Fin 1 → IVec S16 32) a x).toNat < S128.size a)
theorem k0_idx112_inb : ∀ (v336 : IVec S16 32) (k0_hw112 : k0_chk112 v336), ∀ a x, ((![v336] : Fin 1 → IVec S16 32) a x).toNat < S128.size a := fun v336 k0_hw112 => k0_hw112

def k0_chk113 (v339 : IVec S16 32) : Prop :=
  (∀ a x, ((![v339] : Fin 1 → IVec S16 32) a x).toNat < S128.size a)
theorem k0_idx113_inb : ∀ (v339 : IVec S16 32) (k0_hw113 : k0_chk113 v339), ∀ a x, ((![v339] : Fin 1 → IVec S16 32) a x).toNat < S128.size a := fun v339 k0_hw113 => k0_hw113

def k0_chk114 (v342 : IVec S16 32) : Prop :=
  (∀ a x, ((![v342] : Fin 1 → IVec S16 32) a x).toNat < S128.size a)
theorem k0_idx114_inb : ∀ (v342 : IVec S16 32) (k0_hw114 : k0_chk114 v342), ∀ a x, ((![v342] : Fin 1 → IVec S16 32) a x).toNat < S128.size a := fun v342 k0_hw114 => k0_hw114

def k0_chk115 (v345 : IVec S16 32) : Prop :=
  (∀ a x, ((![v345] : Fin 1 → IVec S16 32) a x).toNat < S128.size a)
theorem k0_idx115_inb : ∀ (v345 : IVec S16 32) (k0_hw115 : k0_chk115 v345), ∀ a x, ((![v345] : Fin 1 → IVec S16 32) a x).toNat < S128.size a := fun v345 k0_hw115 => k0_hw115

def k0_chk116 (v348 : IVec S16 32) : Prop :=
  (∀ a x, ((![v348] : Fin 1 → IVec S16 32) a x).toNat < S128.size a)
theorem k0_idx116_inb : ∀ (v348 : IVec S16 32) (k0_hw116 : k0_chk116 v348), ∀ a x, ((![v348] : Fin 1 → IVec S16 32) a x).toNat < S128.size a := fun v348 k0_hw116 => k0_hw116

def k0_chk117 (v351 : IVec S16 32) : Prop :=
  (∀ a x, ((![v351] : Fin 1 → IVec S16 32) a x).toNat < S128.size a)
theorem k0_idx117_inb : ∀ (v351 : IVec S16 32) (k0_hw117 : k0_chk117 v351), ∀ a x, ((![v351] : Fin 1 → IVec S16 32) a x).toNat < S128.size a := fun v351 k0_hw117 => k0_hw117

def k0_chk118 (v354 : IVec S16 32) : Prop :=
  (∀ a x, ((![v354] : Fin 1 → IVec S16 32) a x).toNat < S128.size a)
theorem k0_idx118_inb : ∀ (v354 : IVec S16 32) (k0_hw118 : k0_chk118 v354), ∀ a x, ((![v354] : Fin 1 → IVec S16 32) a x).toNat < S128.size a := fun v354 k0_hw118 => k0_hw118

def k0_chk119 (v357 : IVec S16 32) : Prop :=
  (∀ a x, ((![v357] : Fin 1 → IVec S16 32) a x).toNat < S128.size a)
theorem k0_idx119_inb : ∀ (v357 : IVec S16 32) (k0_hw119 : k0_chk119 v357), ∀ a x, ((![v357] : Fin 1 → IVec S16 32) a x).toNat < S128.size a := fun v357 k0_hw119 => k0_hw119

def k0_chk120 (v360 : IVec S16 32) : Prop :=
  (∀ a x, ((![v360] : Fin 1 → IVec S16 32) a x).toNat < S128.size a)
theorem k0_idx120_inb : ∀ (v360 : IVec S16 32) (k0_hw120 : k0_chk120 v360), ∀ a x, ((![v360] : Fin 1 → IVec S16 32) a x).toNat < S128.size a := fun v360 k0_hw120 => k0_hw120

def k0_chk121 (v363 : IVec S16 32) : Prop :=
  (∀ a x, ((![v363] : Fin 1 → IVec S16 32) a x).toNat < S128.size a)
theorem k0_idx121_inb : ∀ (v363 : IVec S16 32) (k0_hw121 : k0_chk121 v363), ∀ a x, ((![v363] : Fin 1 → IVec S16 32) a x).toNat < S128.size a := fun v363 k0_hw121 => k0_hw121

def k0_chk122 (v366 : IVec S16 32) : Prop :=
  (∀ a x, ((![v366] : Fin 1 → IVec S16 32) a x).toNat < S128.size a)
theorem k0_idx122_inb : ∀ (v366 : IVec S16 32) (k0_hw122 : k0_chk122 v366), ∀ a x, ((![v366] : Fin 1 → IVec S16 32) a x).toNat < S128.size a := fun v366 k0_hw122 => k0_hw122

def k0_chk123 (v369 : IVec S16 32) : Prop :=
  (∀ a x, ((![v369] : Fin 1 → IVec S16 32) a x).toNat < S128.size a)
theorem k0_idx123_inb : ∀ (v369 : IVec S16 32) (k0_hw123 : k0_chk123 v369), ∀ a x, ((![v369] : Fin 1 → IVec S16 32) a x).toNat < S128.size a := fun v369 k0_hw123 => k0_hw123

def k0_chk124 (v372 : IVec S16 32) : Prop :=
  (∀ a x, ((![v372] : Fin 1 → IVec S16 32) a x).toNat < S128.size a)
theorem k0_idx124_inb : ∀ (v372 : IVec S16 32) (k0_hw124 : k0_chk124 v372), ∀ a x, ((![v372] : Fin 1 → IVec S16 32) a x).toNat < S128.size a := fun v372 k0_hw124 => k0_hw124

def k0_chk125 (v375 : IVec S16 32) : Prop :=
  (∀ a x, ((![v375] : Fin 1 → IVec S16 32) a x).toNat < S128.size a)
theorem k0_idx125_inb : ∀ (v375 : IVec S16 32) (k0_hw125 : k0_chk125 v375), ∀ a x, ((![v375] : Fin 1 → IVec S16 32) a x).toNat < S128.size a := fun v375 k0_hw125 => k0_hw125

def k0_chk126 (v378 : IVec S16 32) : Prop :=
  (∀ a x, ((![v378] : Fin 1 → IVec S16 32) a x).toNat < S128.size a)
theorem k0_idx126_inb : ∀ (v378 : IVec S16 32) (k0_hw126 : k0_chk126 v378), ∀ a x, ((![v378] : Fin 1 → IVec S16 32) a x).toNat < S128.size a := fun v378 k0_hw126 => k0_hw126

def k0_chk127 (v381 : IVec S16 32) : Prop :=
  (∀ a x, ((![v381] : Fin 1 → IVec S16 32) a x).toNat < S128.size a)
theorem k0_idx127_inb : ∀ (v381 : IVec S16 32) (k0_hw127 : k0_chk127 v381), ∀ a x, ((![v381] : Fin 1 → IVec S16 32) a x).toNat < S128.size a := fun v381 k0_hw127 => k0_hw127

def k0_chk128 (v384 : IVec S16 32) : Prop :=
  (∀ a x, ((![v384] : Fin 1 → IVec S16 32) a x).toNat < S128.size a)
theorem k0_idx128_inb : ∀ (v384 : IVec S16 32) (k0_hw128 : k0_chk128 v384), ∀ a x, ((![v384] : Fin 1 → IVec S16 32) a x).toNat < S128.size a := fun v384 k0_hw128 => k0_hw128
def k0_off2 (i : grid0.Coords) : Fin 1 → Nat :=
  let arg1 : BitVec 32 := BitVec.ofNat 32 (i 1).val
  let arg0 : BitVec 32 := BitVec.ofNat 32 (i 0).val
  let c0_i32 : BitVec 32 := 0#32
  let v0 : BitVec 32 := Scalar.muli arg0 c0_i32
  let v1 : BitVec 32 := Scalar.addi arg1 v0
  let c2048_i32 : BitVec 32 := 2048#32
  let v2 : BitVec 32 := Scalar.muli v1 c2048_i32
  ![v2.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x128 : Shape := ⟨2, ![32768, 128]⟩
abbrev S32768 : Shape := ⟨1, ![32768]⟩
abbrev S128 : Shape := ⟨1, ![128]⟩
abbrev S50 : Shape := ⟨1, ![50]⟩
abbrev S_ : Shape := ⟨0, ![]⟩
abbrev S128x1 : Shape := ⟨2, ![128, 1]⟩
abbrev S1 : Shape := ⟨1, ![1]⟩
abbrev S1x1 : Shape := ⟨2, ![1, 1]⟩
abbrev S32768x1 : Shape := ⟨2, ![32768, 1]⟩
abbrev S1x128 : Shape := ⟨2, ![1, 128]⟩

abbrev nBuf : Space → Nat
  | .hbm => 285
  | .vmem => 0
  | .smem => 0
  | _ => 0

abbrev hbmTy0_0 (i : Nat) : BufTy := match i % 128 with
  | 0 => ⟨S32768x128, .f32⟩
  | 1 => ⟨S32768x128, .f32⟩
  | 2 => ⟨S32768, .i32⟩
  | 3 => ⟨S128, .i32⟩
  | 4 => ⟨S32768, .i32⟩
  | 5 => ⟨S50, .f32⟩
  | 6 => ⟨S50, .f32⟩
  | 7 => ⟨S50, .f32⟩
  | 8 => ⟨S50, .f32⟩
  | 9 => ⟨S128, .f32⟩
  | 10 => ⟨S_, .i32⟩
  | 11 => ⟨S128, .i32⟩
  | 12 => ⟨S128, .i1⟩
  | 13 => ⟨S_, .i32⟩
  | 14 => ⟨S128, .i32⟩
  | 15 => ⟨S128, .i32⟩
  | 16 => ⟨S128, .i32⟩
  | 17 => ⟨S128x1, .i32⟩
  | 18 => ⟨S1, .i32⟩
  | 19 => ⟨S_, .i32⟩
  | 20 => ⟨S128x1, .i32⟩
  | 21 => ⟨S128x1, .i1⟩
  | 22 => ⟨S1x1, .i32⟩
  | 23 => ⟨S128x1, .i32⟩
  | 24 => ⟨S128x1, .i1⟩
  | 25 => ⟨S128x1, .i1⟩
  | 26 => ⟨S_, .i1⟩
  | 27 => ⟨S128, .i1⟩
  | 28 => ⟨S128, .f32⟩
  | 29 => ⟨S_, .f32⟩
  | 30 => ⟨S128, .f32⟩
  | 31 => ⟨S128, .f32⟩
  | 32 => ⟨S_, .i32⟩
  | 33 => ⟨S32768, .i32⟩
  | 34 => ⟨S32768, .i1⟩
  | 35 => ⟨S_, .i32⟩
  | 36 => ⟨S32768, .i32⟩
  | 37 => ⟨S32768, .i32⟩
  | 38 => ⟨S32768, .i32⟩
  | 39 => ⟨S32768x1, .i32⟩
  | 40 => ⟨S1, .i32⟩
  | 41 => ⟨S_, .i32⟩
  | 42 => ⟨S32768x1, .i32⟩
  | 43 => ⟨S32768x1, .i1⟩
  | 44 => ⟨S1x1, .i32⟩
  | 45 => ⟨S32768x1, .i32⟩
  | 46 => ⟨S32768x1, .i1⟩
  | 47 => ⟨S32768x1, .i1⟩
  | 48 => ⟨S_, .i1⟩
  | 49 => ⟨S32768, .i1⟩
  | 50 => ⟨S32768, .f32⟩
  | 51 => ⟨S_, .f32⟩
  | 52 => ⟨S32768, .f32⟩
  | 53 => ⟨S32768, .f32⟩
  | 54 => ⟨S32768x1, .f32⟩
  | 55 => ⟨S_, .i32⟩
  | 56 => ⟨S128, .i32⟩
  | 57 => ⟨S128, .i1⟩
  | 58 => ⟨S_, .i32⟩
  | 59 => ⟨S128, .i32⟩
  | 60 => ⟨S128, .i32⟩
  | 61 => ⟨S128, .i32⟩
  | 62 => ⟨S128x1, .i32⟩
  | 63 => ⟨S1, .i32⟩
  | 64 => ⟨S_, .i32⟩
  | 65 => ⟨S128x1, .i32⟩
  | 66 => ⟨S128x1, .i1⟩
  | 67 => ⟨S1x1, .i32⟩
  | 68 => ⟨S128x1, .i32⟩
  | 69 => ⟨S128x1, .i1⟩
  | 70 => ⟨S128x1, .i1⟩
  | 71 => ⟨S_, .i1⟩
  | 72 => ⟨S128, .i1⟩
  | 73 => ⟨S128, .f32⟩
  | 74 => ⟨S_, .f32⟩
  | 75 => ⟨S128, .f32⟩
  | 76 => ⟨S128, .f32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S32768x1, .i32⟩
  | 85 => ⟨S1, .i32⟩
  | 86 => ⟨S_, .i32⟩
  | 87 => ⟨S32768x1, .i32⟩
  | 88 => ⟨S32768x1, .i1⟩
  | 89 => ⟨S1x1, .i32⟩
  | 90 => ⟨S32768x1, .i32⟩
  | 91 => ⟨S32768x1, .i1⟩
  | 92 => ⟨S32768x1, .i1⟩
  | 93 => ⟨S_, .i1⟩
  | 94 => ⟨S32768, .i1⟩
  | 95 => ⟨S32768, .f32⟩
  | 96 => ⟨S_, .f32⟩
  | 97 => ⟨S32768, .f32⟩
  | 98 => ⟨S32768, .f32⟩
  | 99 => ⟨S32768x1, .f32⟩
  | 100 => ⟨S_, .i32⟩
  | 101 => ⟨S128, .i32⟩
  | 102 => ⟨S128, .i1⟩
  | 103 => ⟨S_, .i32⟩
  | 104 => ⟨S128, .i32⟩
  | 105 => ⟨S128, .i32⟩
  | 106 => ⟨S128, .i32⟩
  | 107 => ⟨S128x1, .i32⟩
  | 108 => ⟨S1, .i32⟩
  | 109 => ⟨S_, .i32⟩
  | 110 => ⟨S128x1, .i32⟩
  | 111 => ⟨S128x1, .i1⟩
  | 112 => ⟨S1x1, .i32⟩
  | 113 => ⟨S128x1, .i32⟩
  | 114 => ⟨S128x1, .i1⟩
  | 115 => ⟨S128x1, .i1⟩
  | 116 => ⟨S_, .i1⟩
  | 117 => ⟨S128, .i1⟩
  | 118 => ⟨S128, .f32⟩
  | 119 => ⟨S_, .f32⟩
  | 120 => ⟨S128, .f32⟩
  | 121 => ⟨S128, .f32⟩
  | 122 => ⟨S_, .i32⟩
  | 123 => ⟨S32768, .i32⟩
  | 124 => ⟨S32768, .i1⟩
  | 125 => ⟨S_, .i32⟩
  | 126 => ⟨S32768, .i32⟩
  | 127 => ⟨S32768, .i32⟩
  | _ => ⟨S32768x128, .f32⟩

abbrev hbmTy0_1 (i : Nat) : BufTy := match i % 128 with
  | 0 => ⟨S32768, .i32⟩
  | 1 => ⟨S32768x1, .i32⟩
  | 2 => ⟨S1, .i32⟩
  | 3 => ⟨S_, .i32⟩
  | 4 => ⟨S32768x1, .i32⟩
  | 5 => ⟨S32768x1, .i1⟩
  | 6 => ⟨S1x1, .i32⟩
  | 7 => ⟨S32768x1, .i32⟩
  | 8 => ⟨S32768x1, .i1⟩
  | 9 => ⟨S32768x1, .i1⟩
  | 10 => ⟨S_, .i1⟩
  | 11 => ⟨S32768, .i1⟩
  | 12 => ⟨S32768, .f32⟩
  | 13 => ⟨S_, .f32⟩
  | 14 => ⟨S32768, .f32⟩
  | 15 => ⟨S32768, .f32⟩
  | 16 => ⟨S32768x1, .f32⟩
  | 17 => ⟨S_, .i32⟩
  | 18 => ⟨S128, .i32⟩
  | 19 => ⟨S128, .i1⟩
  | 20 => ⟨S_, .i32⟩
  | 21 => ⟨S128, .i32⟩
  | 22 => ⟨S128, .i32⟩
  | 23 => ⟨S128, .i32⟩
  | 24 => ⟨S128x1, .i32⟩
  | 25 => ⟨S1, .i32⟩
  | 26 => ⟨S_, .i32⟩
  | 27 => ⟨S128x1, .i32⟩
  | 28 => ⟨S128x1, .i1⟩
  | 29 => ⟨S1x1, .i32⟩
  | 30 => ⟨S128x1, .i32⟩
  | 31 => ⟨S128x1, .i1⟩
  | 32 => ⟨S128x1, .i1⟩
  | 33 => ⟨S_, .i1⟩
  | 34 => ⟨S128, .i1⟩
  | 35 => ⟨S128, .f32⟩
  | 36 => ⟨S_, .f32⟩
  | 37 => ⟨S128, .f32⟩
  | 38 => ⟨S128, .f32⟩
  | 39 => ⟨S_, .i32⟩
  | 40 => ⟨S32768, .i32⟩
  | 41 => ⟨S32768, .i1⟩
  | 42 => ⟨S_, .i32⟩
  | 43 => ⟨S32768, .i32⟩
  | 44 => ⟨S32768, .i32⟩
  | 45 => ⟨S32768, .i32⟩
  | 46 => ⟨S32768x1, .i32⟩
  | 47 => ⟨S1, .i32⟩
  | 48 => ⟨S_, .i32⟩
  | 49 => ⟨S32768x1, .i32⟩
  | 50 => ⟨S32768x1, .i1⟩
  | 51 => ⟨S1x1, .i32⟩
  | 52 => ⟨S32768x1, .i32⟩
  | 53 => ⟨S32768x1, .i1⟩
  | 54 => ⟨S32768x1, .i1⟩
  | 55 => ⟨S_, .i1⟩
  | 56 => ⟨S32768, .i1⟩
  | 57 => ⟨S32768, .f32⟩
  | 58 => ⟨S_, .f32⟩
  | 59 => ⟨S32768, .f32⟩
  | 60 => ⟨S32768, .f32⟩
  | 61 => ⟨S32768x1, .f32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S32768x1, .i32⟩
  | 70 => ⟨S32768, .i32⟩
  | 71 => ⟨S_, .i32⟩
  | 72 => ⟨S32768, .i32⟩
  | 73 => ⟨S32768, .i1⟩
  | 74 => ⟨S32768x1, .i32⟩
  | 75 => ⟨S1x128, .i32⟩
  | 76 => ⟨S32768x128, .i32⟩
  | 77 => ⟨S32768x128, .i32⟩
  | 78 => ⟨S32768x128, .i1⟩
  | 79 => ⟨S32768x128, .f32⟩
  | 80 => ⟨S_, .f32⟩
  | 81 => ⟨S_, .f32⟩
  | 82 => ⟨S32768x128, .f32⟩
  | 83 => ⟨S32768x128, .f32⟩
  | 84 => ⟨S32768x128, .f32⟩
  | 85 => ⟨S1x128, .f32⟩
  | 86 => ⟨S32768x128, .f32⟩
  | 87 => ⟨S32768x128, .f32⟩
  | 88 => ⟨S32768x128, .f32⟩
  | 89 => ⟨S32768x128, .f32⟩
  | 90 => ⟨S32768x128, .f32⟩
  | 91 => ⟨S32768x128, .f32⟩
  | 92 => ⟨S32768x128, .f32⟩
  | 93 => ⟨S32768x128, .f32⟩
  | 94 => ⟨S32768x128, .f32⟩
  | 95 => ⟨S32768x128, .f32⟩
  | 96 => ⟨S32768x128, .f32⟩
  | 97 => ⟨S32768x128, .f32⟩
  | 98 => ⟨S32768x128, .f32⟩
  | 99 => ⟨S32768x128, .f32⟩
  | 100 => ⟨S32768x128, .f32⟩
  | 101 => ⟨S32768x128, .f32⟩
  | 102 => ⟨S32768x128, .f32⟩
  | 103 => ⟨S32768x128, .f32⟩
  | 104 => ⟨S32768x128, .f32⟩
  | 105 => ⟨S32768x128, .f32⟩
  | 106 => ⟨S32768x128, .f32⟩
  | 107 => ⟨S32768x128, .f32⟩
  | 108 => ⟨S32768x128, .f32⟩
  | 109 => ⟨S32768x128, .f32⟩
  | 110 => ⟨S32768x128, .f32⟩
  | 111 => ⟨S32768x128, .f32⟩
  | 112 => ⟨S_, .f32⟩
  | 113 => ⟨S32768, .f32⟩
  | 114 => ⟨S32768x1, .f32⟩
  | 115 => ⟨S32768x1, .f32⟩
  | 116 => ⟨S_, .f32⟩
  | 117 => ⟨S32768x1, .f32⟩
  | 118 => ⟨S32768x1, .i1⟩
  | 119 => ⟨S_, .f32⟩
  | 120 => ⟨S32768x1, .f32⟩
  | 121 => ⟨S32768x1, .f32⟩
  | 122 => ⟨S32768x128, .f32⟩
  | 123 => ⟨S32768x128, .f32⟩
  | 124 => ⟨S32768x128, .f32⟩
  | 125 => ⟨S_, .f32⟩
  | 126 => ⟨S32768, .f32⟩
  | 127 => ⟨S32768x1, .f32⟩
  | _ => ⟨S32768x128, .f32⟩

abbrev hbmTy0_2 (i : Nat) : BufTy := match i % 128 with
  | 0 => ⟨S32768x1, .f32⟩
  | 1 => ⟨S32768x1, .f32⟩
  | 2 => ⟨S32768x128, .f32⟩
  | 3 => ⟨S32768x128, .f32⟩
  | 4 => ⟨S32768x1, .i1⟩
  | 5 => ⟨S32768x128, .i1⟩
  | 6 => ⟨S32768x128, .f32⟩
  | 7 => ⟨S_, .f32⟩
  | 8 => ⟨S32768x128, .f32⟩
  | 9 => ⟨S32768x128, .f32⟩
  | 10 => ⟨S32768x128, .f32⟩
  | 11 => ⟨S32768x128, .f32⟩
  | 12 => ⟨S_, .f32⟩
  | 13 => ⟨S32768x128, .f32⟩
  | 14 => ⟨S32768x128, .f32⟩
  | 15 => ⟨S32768x128, .f32⟩
  | 16 => ⟨S32768x128, .f32⟩
  | 17 => ⟨S32768x128, .f32⟩
  | 18 => ⟨S32768x128, .i32⟩
  | 19 => ⟨S_, .f32⟩
  | 20 => ⟨S_, .i32⟩
  | 21 => ⟨S32768, .f32⟩
  | 22 => ⟨S32768, .i32⟩
  | 23 => ⟨S32768x128, .i32⟩
  | 24 => ⟨S_, .f32⟩
  | 25 => ⟨S_, .i32⟩
  | 26 => ⟨S32768, .f32⟩
  | 27 => ⟨S32768, .i32⟩
  | 28 => ⟨S32768, .i32⟩
  | _ => ⟨S32768x128, .f32⟩

abbrev hbmTy (i : Nat) : BufTy := match i / 128 with
  | 0 => hbmTy0_0 i
  | 1 => hbmTy0_1 i
  | 2 => hbmTy0_2 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v1 : Ref sig .tc := ⟨.hbm, 53, rfl⟩
abbrev main_v2 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v3 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_cst : Ref sig .tc := ⟨.hbm, 96, rfl⟩
abbrev main_call3_v14 : Ref sig .tc := ⟨.hbm, 97, rfl⟩
abbrev main_v4 : Ref sig .tc := ⟨.hbm, 98, rfl⟩
abbrev main_v5 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_cst : Ref sig .tc := ⟨.hbm, 119, rfl⟩
abbrev main_call4_v14 : Ref sig .tc := ⟨.hbm, 120, rfl⟩
abbrev main_v6 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_cst : Ref sig .tc := ⟨.hbm, 141, rfl⟩
abbrev main_call5_v14 : Ref sig .tc := ⟨.hbm, 142, rfl⟩
abbrev main_v7 : Ref sig .tc := ⟨.hbm, 143, rfl⟩
abbrev main_v8 : Ref sig .tc := ⟨.hbm, 144, rfl⟩
abbrev main_call6_c : Ref sig .tc := ⟨.hbm, 145, rfl⟩
abbrev main_call6_v0 : Ref sig .tc := ⟨.hbm, 146, rfl⟩
abbrev main_call6_v1 : Ref sig .tc := ⟨.hbm, 147, rfl⟩
abbrev main_call6_c_0 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_c_1 : Ref sig .tc := ⟨.hbm, 153, rfl⟩
abbrev main_call6_c_2 : Ref sig .tc := ⟨.hbm, 154, rfl⟩
abbrev main_call6_v6 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_c_3 : Ref sig .tc := ⟨.hbm, 161, rfl⟩
abbrev main_call6_v12 : Ref sig .tc := ⟨.hbm, 162, rfl⟩
abbrev main_call6_v13 : Ref sig .tc := ⟨.hbm, 163, rfl⟩
abbrev main_call6_cst : Ref sig .tc := ⟨.hbm, 164, rfl⟩
abbrev main_call6_v14 : Ref sig .tc := ⟨.hbm, 165, rfl⟩
abbrev main_v9 : Ref sig .tc := ⟨.hbm, 166, rfl⟩
abbrev main_call7_c : Ref sig .tc := ⟨.hbm, 167, rfl⟩
abbrev main_call7_v0 : Ref sig .tc := ⟨.hbm, 168, rfl⟩
abbrev main_call7_v1 : Ref sig .tc := ⟨.hbm, 169, rfl⟩
abbrev main_call7_c_0 : Ref sig .tc := ⟨.hbm, 170, rfl⟩
abbrev main_call7_v2 : Ref sig .tc := ⟨.hbm, 171, rfl⟩
abbrev main_call7_v3 : Ref sig .tc := ⟨.hbm, 172, rfl⟩
abbrev main_call7_v4 : Ref sig .tc := ⟨.hbm, 173, rfl⟩
abbrev main_call7_v5 : Ref sig .tc := ⟨.hbm, 174, rfl⟩
abbrev main_call7_c_1 : Ref sig .tc := ⟨.hbm, 175, rfl⟩
abbrev main_call7_c_2 : Ref sig .tc := ⟨.hbm, 176, rfl⟩
abbrev main_call7_v6 : Ref sig .tc := ⟨.hbm, 177, rfl⟩
abbrev main_call7_v7 : Ref sig .tc := ⟨.hbm, 178, rfl⟩
abbrev main_call7_v8 : Ref sig .tc := ⟨.hbm, 179, rfl⟩
abbrev main_call7_v9 : Ref sig .tc := ⟨.hbm, 180, rfl⟩
abbrev main_call7_v10 : Ref sig .tc := ⟨.hbm, 181, rfl⟩
abbrev main_call7_v11 : Ref sig .tc := ⟨.hbm, 182, rfl⟩
abbrev main_call7_c_3 : Ref sig .tc := ⟨.hbm, 183, rfl⟩
abbrev main_call7_v12 : Ref sig .tc := ⟨.hbm, 184, rfl⟩
abbrev main_call7_v13 : Ref sig .tc := ⟨.hbm, 185, rfl⟩
abbrev main_call7_cst : Ref sig .tc := ⟨.hbm, 186, rfl⟩
abbrev main_call7_v14 : Ref sig .tc := ⟨.hbm, 187, rfl⟩
abbrev main_v10 : Ref sig .tc := ⟨.hbm, 188, rfl⟩
abbrev main_v11 : Ref sig .tc := ⟨.hbm, 189, rfl⟩
abbrev main_c : Ref sig .tc := ⟨.hbm, 190, rfl⟩
abbrev main_v12 : Ref sig .tc := ⟨.hbm, 191, rfl⟩
abbrev main_v13 : Ref sig .tc := ⟨.hbm, 192, rfl⟩
abbrev main_c_4 : Ref sig .tc := ⟨.hbm, 193, rfl⟩
abbrev main_v14 : Ref sig .tc := ⟨.hbm, 194, rfl⟩
abbrev main_v15 : Ref sig .tc := ⟨.hbm, 195, rfl⟩
abbrev main_v16 : Ref sig .tc := ⟨.hbm, 196, rfl⟩
abbrev main_v17 : Ref sig .tc := ⟨.hbm, 197, rfl⟩
abbrev main_v18 : Ref sig .tc := ⟨.hbm, 198, rfl⟩
abbrev main_c_5 : Ref sig .tc := ⟨.hbm, 199, rfl⟩
abbrev main_v19 : Ref sig .tc := ⟨.hbm, 200, rfl⟩
abbrev main_v20 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_call8_v3 : Ref sig .tc := ⟨.hbm, 205, rfl⟩
abbrev main_call8_v4 : Ref sig .tc := ⟨.hbm, 206, rfl⟩
abbrev main_v21 : Ref sig .tc := ⟨.hbm, 207, rfl⟩
abbrev main_cst_6 : Ref sig .tc := ⟨.hbm, 208, rfl⟩
abbrev main_call9_v0 : Ref sig .tc := ⟨.hbm, 209, rfl⟩
abbrev main_call9_v1 : Ref sig .tc := ⟨.hbm, 210, rfl⟩
abbrev main_v22 : Ref sig .tc := ⟨.hbm, 211, rfl⟩
abbrev main_v23 : Ref sig .tc := ⟨.hbm, 212, rfl⟩
abbrev main_v24 : Ref sig .tc := ⟨.hbm, 213, rfl⟩
abbrev main_v25 : Ref sig .tc := ⟨.hbm, 214, rfl⟩
abbrev main_v26 : Ref sig .tc := ⟨.hbm, 215, rfl⟩
abbrev main_v27 : Ref sig .tc := ⟨.hbm, 216, rfl⟩
abbrev main_v28 : Ref sig .tc := ⟨.hbm, 217, rfl⟩
abbrev main_v29 : Ref sig .tc := ⟨.hbm, 218, rfl⟩
abbrev main_v30 : Ref sig .tc := ⟨.hbm, 219, rfl⟩
abbrev main_v31 : Ref sig .tc := ⟨.hbm, 220, rfl⟩
abbrev main_v32 : Ref sig .tc := ⟨.hbm, 221, rfl⟩
abbrev main_v33 : Ref sig .tc := ⟨.hbm, 222, rfl⟩
abbrev main_v34 : Ref sig .tc := ⟨.hbm, 223, rfl⟩
abbrev main_v35 : Ref sig .tc := ⟨.hbm, 224, rfl⟩
abbrev main_v36 : Ref sig .tc := ⟨.hbm, 225, rfl⟩
abbrev main_v37 : Ref sig .tc := ⟨.hbm, 226, rfl⟩
abbrev main_v38 : Ref sig .tc := ⟨.hbm, 227, rfl⟩
abbrev main_v39 : Ref sig .tc := ⟨.hbm, 228, rfl⟩
abbrev main_v40 : Ref sig .tc := ⟨.hbm, 229, rfl⟩
abbrev main_v41 : Ref sig .tc := ⟨.hbm, 230, rfl⟩
abbrev main_v42 : Ref sig .tc := ⟨.hbm, 231, rfl⟩
abbrev main_v43 : Ref sig .tc := ⟨.hbm, 232, rfl⟩
abbrev main_v44 : Ref sig .tc := ⟨.hbm, 233, rfl⟩
abbrev main_v45 : Ref sig .tc := ⟨.hbm, 234, rfl⟩
abbrev main_v46 : Ref sig .tc := ⟨.hbm, 235, rfl⟩
abbrev main_v47 : Ref sig .tc := ⟨.hbm, 236, rfl⟩
abbrev main_v48 : Ref sig .tc := ⟨.hbm, 237, rfl⟩
abbrev main_v49 : Ref sig .tc := ⟨.hbm, 238, rfl⟩
abbrev main_v50 : Ref sig .tc := ⟨.hbm, 239, rfl⟩
abbrev main_cst_7 : Ref sig .tc := ⟨.hbm, 240, rfl⟩
abbrev main_v51 : Ref sig .tc := ⟨.hbm, 241, rfl⟩
abbrev main_v52 : Ref sig .tc := ⟨.hbm, 242, rfl⟩
abbrev main_v53 : Ref sig .tc := ⟨.hbm, 243, rfl⟩
abbrev main_cst_8 : Ref sig .tc := ⟨.hbm, 244, rfl⟩
abbrev main_v54 : Ref sig .tc := ⟨.hbm, 245, rfl⟩
abbrev main_v55 : Ref sig .tc := ⟨.hbm, 246, rfl⟩
abbrev main_cst_9 : Ref sig .tc := ⟨.hbm, 247, rfl⟩
abbrev main_call10_v0 : Ref sig .tc := ⟨.hbm, 248, rfl⟩
abbrev main_v56 : Ref sig .tc := ⟨.hbm, 249, rfl⟩
abbrev main_v57 : Ref sig .tc := ⟨.hbm, 250, rfl⟩
abbrev main_v58 : Ref sig .tc := ⟨.hbm, 251, rfl⟩
abbrev main_v59 : Ref sig .tc := ⟨.hbm, 252, rfl⟩
abbrev main_cst_10 : Ref sig .tc := ⟨.hbm, 253, rfl⟩
abbrev main_v60 : Ref sig .tc := ⟨.hbm, 254, rfl⟩
abbrev main_v61 : Ref sig .tc := ⟨.hbm, 255, rfl⟩
abbrev main_v62 : Ref sig .tc := ⟨.hbm, 256, rfl⟩
abbrev main_v63 : Ref sig .tc := ⟨.hbm, 257, rfl⟩
abbrev main_v64 : Ref sig .tc := ⟨.hbm, 258, rfl⟩
abbrev main_v65 : Ref sig .tc := ⟨.hbm, 259, rfl⟩
abbrev main_v66 : Ref sig .tc := ⟨.hbm, 260, rfl⟩
abbrev main_call11_v0 : Ref sig .tc := ⟨.hbm, 261, rfl⟩
abbrev main_v67 : Ref sig .tc := ⟨.hbm, 262, rfl⟩
abbrev main_cst_11 : Ref sig .tc := ⟨.hbm, 263, rfl⟩
abbrev main_v68 : Ref sig .tc := ⟨.hbm, 264, rfl⟩
abbrev main_v69 : Ref sig .tc := ⟨.hbm, 265, rfl⟩
abbrev main_v70 : Ref sig .tc := ⟨.hbm, 266, rfl⟩
abbrev main_v71 : Ref sig .tc := ⟨.hbm, 267, rfl⟩
abbrev main_cst_12 : Ref sig .tc := ⟨.hbm, 268, rfl⟩
abbrev main_v72 : Ref sig .tc := ⟨.hbm, 269, rfl⟩
abbrev main_v73 : Ref sig .tc := ⟨.hbm, 270, rfl⟩
abbrev main_v74 : Ref sig .tc := ⟨.hbm, 271, rfl⟩
abbrev main_v75 : Ref sig .tc := ⟨.hbm, 272, rfl⟩
abbrev main_v76 : Ref sig .tc := ⟨.hbm, 273, rfl⟩
abbrev main_call12_v0 : Ref sig .tc := ⟨.hbm, 274, rfl⟩
abbrev main_call12_cst : Ref sig .tc := ⟨.hbm, 275, rfl⟩
abbrev main_call12_c : Ref sig .tc := ⟨.hbm, 276, rfl⟩
abbrev main_call12_v1_0 : Ref sig .tc := ⟨.hbm, 277, rfl⟩
abbrev main_v77 : Ref sig .tc := ⟨.hbm, 278, rfl⟩
abbrev main_call13_v0 : Ref sig .tc := ⟨.hbm, 279, rfl⟩
abbrev main_call13_cst : Ref sig .tc := ⟨.hbm, 280, rfl⟩
abbrev main_call13_c : Ref sig .tc := ⟨.hbm, 281, rfl⟩
abbrev main_call13_v1_0 : Ref sig .tc := ⟨.hbm, 282, rfl⟩
abbrev main_v78 : Ref sig .tc := ⟨.hbm, 283, rfl⟩
abbrev main_v79 : Ref sig .tc := ⟨.hbm, 284, rfl⟩

abbrev nD : Nat := 1
abbrev τ : Topo := Topo.v7x

variable {F : FTy → Type} [FloatOps F]
-- ==== Proof.Groups.lean ====
/-
  The SparseCore kernel's body as a loop: its 128 groups of sixteen lanes are one group at a lane offset, run in order.
-/
module

public import proofs.«01_k».proof.Proof.Gen.KernelIdeal
public import Idealize.ShloMosaic.Lib.Pipeline.Regions

@[expose] public section

noncomputable section

namespace Cert.Proof.Groups

open Cert.KernelIdeal
open Idealize.ShloMosaic Idealize.SL.Sem
open Facts₀

variable {F : FTy → Type} [FloatOps F]

/-- Sixteen lanes from lane `16 * g` lie inside a row of 2048, for a group `g` below 128. -/
theorem lanes_inb {g : Nat} (hg : g < 128) : ∀ a, (![16 * g] : Fin 1 → Nat) a + S16.size a ≤ S2048.size a := by
  intro a
  obtain rfl : a = 0 := Subsingleton.elim _ _
  show 16 * g + 16 ≤ 2048
  omega

/-- The sixteen lanes of group `g`. -/
abbrev lanes (g : Nat) (hg : g < 128) : Rect S2048 := Rect.unit (s := S2048) ![16 * g] S16.size (lanes_inb hg)

section Prog

variable (i : grid0.Coords) (tsV : Memref sig .scVector .vmem S128 .i32) (bV tV : Memref sig .scVector .vmem S2048 .i32)

/-- One group: load its indices, check they name lanes of the table, gather the table at them, store what was gathered. -/
def group (g : Nat) (hg : g < 128) :
    Prog (TpuEff nD τ sig (Elt F) Λ₀ (.scVector ((i 0).castLE hcore0) ((i 1).castLE hsub0))) PUnit := do
  let v : Vec F S16 .i32 ← Prog.lift (.load bV (lanes g hg).toLoadRect (View.loadsAt_vmem h_S16))
  have hw : k0_chk1 v := (← Prog.lift (TpuEff.assume (k0_chk1 v) (k0_chk1.dec v))).down
  let w : Vec F S16 .i32 ← SparseCore.vectorLoadIdx tsV ![v] (k0_idx1_inb v hw) (View.loads_vmem h_S128)
  let _ : Vec F S16 .i32 ← Prog.lift (.load tV (lanes g hg).toLoadRect (View.loadsAt_vmem h_S16))
  Prog.lift (.store tV (lanes g hg) w Finset.univ (View.stores_vmem_bits_univ h_S16 rfl) (.inl rfl))

/-- The groups from `g` on, `n` of them. -/
def groups : (n g : Nat) → g + n = 128 →
    Prog (TpuEff nD τ sig (Elt F) Λ₀ (.scVector ((i 0).castLE hcore0) ((i 1).castLE hsub0))) PUnit
  | 0, _, _ => pure ⟨⟩
  | n + 1, g, h => do
    group i tsV bV tV g (by omega)
    groups n (g + 1) (by omega)

end Prog

/-- The kernel: fetch the table, fetch the tile's indices, run the 128 groups, write the tile's block out. -/
def body (i : grid0.Coords) (arg2 : Memref sig .scVector .hbm S128 .i32) (harg2 : arg2.IsWhole) (arg3 : Memref sig .scVector .hbm S32768 .i32)
    (arg4 : Memref sig .scVector .hbm S32768 .i32) (arg5 : Memref sig .scVector .vmem S128 .i32) (harg5 : arg5.IsWhole)
    (arg6 : Memref sig .scVector .vmem S2048 .i32) (harg6 : arg6.IsWhole) (arg7 : Memref sig .scVector .vmem S2048 .i32) (harg7 : arg7.IsWhole)
    (r0 r1 r2 : DmaSems sig S_) :
    Prog (TpuEff nD τ sig (Elt F) Λ₀ (.scVector ((i 0).castLE hcore0) ((i 1).castLE hsub0))) PUnit := do
  Prog.lift (.enqueueDma arg2 (.here arg5) (.dma r0.sem) harg2.wordExact harg5.wordExact ⟨Or.inl rfl, trivial⟩)
  Prog.lift (.waitDma2 r0.sem arg2 arg5 harg2.wordExact harg5.wordExact)
  Prog.lift (.enqueueDma (arg3.slice (Rect.unit (s := S32768) (k0_off1 i) S2048.size (k0_off1_inb i)) (fun _ => rfl)) (.here arg6) (.dma r1.sem) (View.wordExact_bits rfl) harg6.wordExact ⟨Or.inl rfl, trivial⟩)
  Prog.lift (.waitDma2 r1.sem (arg3.slice (Rect.unit (s := S32768) (k0_off1 i) S2048.size (k0_off1_inb i)) (fun _ => rfl)) arg6 (View.wordExact_bits rfl) harg6.wordExact)
  groups i arg5 arg6 arg7 128 0 rfl
  Prog.lift (.enqueueDma arg7 (.here (arg4.slice (Rect.unit (s := S32768) (k0_off2 i) S2048.size (k0_off2_inb i)) (fun _ => rfl))) (.dma r2.sem) harg7.wordExact (View.wordExact_bits rfl) ⟨Or.inl rfl, trivial⟩)
  Prog.lift (.waitDma2 r2.sem arg7 (arg4.slice (Rect.unit (s := S32768) (k0_off2 i) S2048.size (k0_off2_inb i)) (fun _ => rfl)) harg7.wordExact (View.wordExact_bits rfl))
  pure ⟨⟩

theorem kernel_eq (i : grid0.Coords) (arg2 : Memref sig .scVector .hbm S128 .i32) (harg2 : arg2.IsWhole) (arg3 : Memref sig .scVector .hbm S32768 .i32) (harg3 : arg3.IsWhole)
    (arg4 : Memref sig .scVector .hbm S32768 .i32) (harg4 : arg4.IsWhole) (arg5 : Memref sig .scVector .vmem S128 .i32) (harg5 : arg5.IsWhole)
    (arg6 : Memref sig .scVector .vmem S2048 .i32) (harg6 : arg6.IsWhole) (arg7 : Memref sig .scVector .vmem S2048 .i32) (harg7 : arg7.IsWhole)
    (r0 r1 r2 : DmaSems sig S_) :
    cc0__sc_gather_t (F := F) i arg2 harg2 arg3 harg3 arg4 harg4 arg5 harg5 arg6 harg6 arg7 harg7 r0 r1 r2
      = body i arg2 harg2 arg3 arg4 arg5 harg5 arg6 harg6 arg7 harg7 r0 r1 r2 := by
  chain_rfl

end Cert.Proof.Groups

end
-- ==== Proof.Setup.lean ====
/-
  The launch as the proof sees it: the configuration, the resource algebra and the arrays' locations.
-/
module

public import proofs.«01_k».proof.Proof.Groups
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UK : Type := URounds (GSem nD τ sig) Unit
abbrev UU : Type := UH × (UK × Counters)

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's rounds: the middle factor. -/
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance EH_landsIn : (EH (F := F)).LandsIn (upEmb : UEmb _ (MT nD τ sig (HIx 1) (Elt F) ℕ UU ℕ)) := by unfold EH; infer_instance
instance EP_landsIn : (EP (F := F)).LandsIn (upEmb : UEmb _ (MT nD τ sig (HIx 1) (Elt F) ℕ UU ℕ)) := by unfold EP; infer_instance

/-! ## The SparseCore call's arrays -/

/-- The table `timestep`, the indices `batch`, the result. -/
abbrev tsLoc (d : Dev nD) : Loc nD τ sig := (SparseCore.T d).loc main_arg3
abbrev btLoc (d : Dev nD) : Loc nD τ sig := (SparseCore.T d).loc main_arg4
abbrev tvLoc (d : Dev nD) : Loc nD τ sig := (SparseCore.T d).loc main_v0

/-- The `n`-th place of the table. -/
def place (n : Nat) (h : n < 128) : S128.Idx := fun a => ⟨n, by obtain rfl : a = 0 := Subsingleton.elim _ _; exact h⟩

/-- The table's entry at an index word; out of the table's range, its first. -/
def entry (ts : S128.Idx → BitVec 32) (b : BitVec 32) : BitVec 32 :=
  ts (if h : b.toNat < 128 then place b.toNat h else place 0 (by decide))

/-- The gather: the table's entry at each index. -/
def gathered (ts : S128.Idx → BitVec 32) (b : S32768.Idx → BitVec 32) : S32768.Idx → BitVec 32 := fun r => entry ts (b r)

end Cert.Proof

end
-- ==== Proof.Tile.lean ====
/-
  One tile of the SparseCore kernel: it fetches the table and its 2048 indices, gathers 128 groups of sixteen lanes, and writes its 2048 results out.
-/
module

public import proofs.«01_k».proof.Proof.Setup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Groups

variable {F : FTy → Type} [FloatOps F]

local notation "𝕄" => MT nD τ sig (HIx 1) (Elt F) ℕ UU ℕ

local notation "tsW" => (Memref.whole Cert.KernelIdeal.main_arg3_scv : Memref Cert.KernelIdeal.sig Kind.scVector Space.hbm Cert.KernelIdeal.S128 EltTy.i32)
local notation "btW" => (Memref.whole Cert.KernelIdeal.main_arg4_scv : Memref Cert.KernelIdeal.sig Kind.scVector Space.hbm Cert.KernelIdeal.S32768 EltTy.i32)
local notation "tvW" => (Memref.whole Cert.KernelIdeal.main_v0_scv : Memref Cert.KernelIdeal.sig Kind.scVector Space.hbm Cert.KernelIdeal.S32768 EltTy.i32)
local notation "sT" => (Memref.whole Cert.KernelIdeal.cc0_scratch0 : Memref Cert.KernelIdeal.sig Kind.scVector Space.vmem Cert.KernelIdeal.S128 EltTy.i32)
local notation "sB" => (Memref.whole Cert.KernelIdeal.cc0_scratch1 : Memref Cert.KernelIdeal.sig Kind.scVector Space.vmem Cert.KernelIdeal.S2048 EltTy.i32)
local notation "sO" => (Memref.whole Cert.KernelIdeal.cc0_scratch2 : Memref Cert.KernelIdeal.sig Kind.scVector Space.vmem Cert.KernelIdeal.S2048 EltTy.i32)

variable (d : Dev nD) (L : grid0.Coords)

abbrev cV (L : grid0.Coords) : Fin τ.nSC := (L 0).castLE Facts₀.hcore0
abbrev jV (L : grid0.Coords) : Fin τ.nSub := (L 1).castLE Facts₀.hsub0
theorem bound_one : grid0.bound 1 = 16 := rfl
abbrev jL (L : grid0.Coords) : Fin 16 := Fin.cast bound_one (L 1)
/-- The tile's thread. -/
abbrev VT (L : grid0.Coords) : Thread nD τ := V d (cV L) (jV L)

/-! ## A group -/

/-- The scratch of results once the groups below `g` have run: their lanes gathered, the others as they were. -/
def filled (ts : S128.Idx → BitVec 32) (b o : S2048.Idx → BitVec 32) (g : Nat) : S2048.Idx → BitVec 32 :=
  fun x => if (x 0).val < 16 * g then entry ts (b x) else o x

theorem lanes_idx (g : Nat) (hg : g < 128) (x : S16.Idx) (a : Fin 1) : ((lanes g hg).toLoadRect.idx x a).val = 16 * g + (x 0).val := by
  rw [LoadRect.idx_apply, Subsingleton.elim a 0]
  show 16 * g + 1 * (x 0).val = _
  omega

/-- The lanes a group loads. -/
def loaded (g : Nat) (hg : g < 128) (b : S2048.Idx → BitVec 32) : S16.Idx → BitVec 32 := fun x => b ((lanes g hg).toLoadRect.idx x)

theorem check_of_lt (g : Nat) (hg : g < 128) (b : S2048.Idx → BitVec 32) (hb : ∀ x, (b x).toNat < 128) : k0_chk1 (loaded g hg b) := by
  intro a x
  obtain rfl : a = 0 := Subsingleton.elim _ _
  exact hb _

/-- Storing a group's gathered lanes takes the scratch to the next group's start. -/
theorem store_lanes (g : Nat) (hg : g < 128) (ts : S128.Idx → BitVec 32) (b o : S2048.Idx → BitVec 32) (w : S16.Idx → BitVec 32)
    (hw : ∀ x, w x = entry ts (loaded g hg b x)) :
    ((sO).access (lanes g hg)).write (Elt F) (filled ts b o g) w Finset.univ = filled ts b o (g + 1) := by
  refine (View.write_whole_slice_unit _ _ _ _ _ _).trans ?_
  funext x
  unfold updateSlice filled
  split
  · next hin =>
    have h0 : 16 * g ≤ (x 0).val ∧ (x 0).val < 16 * g + 16 := hin 0
    rw [hw, if_pos (show (x 0).val < 16 * (g + 1) by omega)]
    unfold loaded
    refine congrArg (fun y => entry ts (b y)) ?_
    funext a
    apply Fin.ext
    rw [lanes_idx, Subsingleton.elim a 0]
    show 16 * g + ((x 0).val - 16 * g) = (x 0).val
    omega
  · next hin =>
    have h0 : ¬ (16 * g ≤ (x 0).val ∧ (x 0).val < 16 * g + 16) := fun h => hin fun a => by
      obtain rfl : a = (0 : Fin 1) := Subsingleton.elim (α := Fin 1) _ _
      exact h
    by_cases h : (x 0).val < 16 * g
    · rw [if_pos h, if_pos (by omega)]
    · rw [if_neg h, if_neg (by omega)]

theorem whole_read (ts : S128.Idx → BitVec 32) (x : S128.Idx) : ((sT).access (.whole S128)).read (Elt F) ts x = ts x := by
  refine (View.read_apply _ _).trans ((cast_eq _ _).trans (congrArg ts ?_))
  funext a
  apply Fin.ext
  show 0 + 1 * (x a).val = (x a).val
  omega

theorem group_wp (g : Nat) (hg : g < 128) (ts : S128.Idx → BitVec 32) (b o : S2048.Idx → BitVec 32) (hb : ∀ x, (b x).toNat < 128) :
    iprop(((sT).view.loc (VT d L) ↦{fullShare} ts) ∗ ((sB).view.loc (VT d L) ↦{fullShare} b) ∗ ((sO).view.loc (VT d L) ↦{fullShare} filled ts b o g))
      ⊢ (wp frame (wpE (defs₀ (F := F)) 𝒱₀ (VT d L) none) Set.univ (group L sT sB sO g hg)
          fun _ => iprop(((sT).view.loc (VT d L) ↦{fullShare} ts) ∗ ((sB).view.loc (VT d L) ↦{fullShare} b) ∗ ((sO).view.loc (VT d L) ↦{fullShare} filled ts b o (g + 1))) : sProp 𝕄) := by
  unfold group
  simp only [Prog.lift, Prog.bind_op, Prog.bind_ret, Prog.pure_eq_ret]
  iintro ⟨Ht, Hb, Ho⟩
  iapply (wp_load 𝒱₀ (VT d L) none Set.univ (m := sB) (S := Finset.univ) (Finset.subset_univ _)) $$ Hb; iintro Hb
  rw [wp_assume_of _ _ _ _ (show k0_chk1 ((sB).view.readAt (Elt F) (lanes g hg).toLoadRect b) from check_of_lt g hg b hb)]
  iapply (SparseCore.wp_vectorLoadIdx 𝒱₀ (VT d L) none Set.univ (base := sT) (S := Finset.univ) (q := fullShare) (Finset.subset_univ _)) $$ Ht; iintro Ht
  iapply (wp_load 𝒱₀ (VT d L) none Set.univ (m := sO) (S := Finset.univ) (Finset.subset_univ _)) $$ Ho; iintro Ho
  iapply (wp_store 𝒱₀ (VT d L) none Set.univ (m := sO) (r := lanes g hg) (Mk := Finset.univ) (S := Finset.univ) (Finset.subset_univ _)) $$ Ho; iintro Ho
  rw [wp_ret]; imodintro
  isplitl [Ht]; · iexact Ht
  isplitl [Hb]; · iexact Hb
  rw [← store_lanes (F := F) g hg ts b o _ ?hw]
  · iexact Ho
  intro x
  refine (whole_read (F := F) _ _).trans (congrArg ts ?_)
  rw [dif_pos (show (loaded g hg b x).toNat < 128 from hb _)]
  funext a
  obtain rfl : a = (0 : Fin 1) := Subsingleton.elim (α := Fin 1) _ _
  rfl

theorem groups_wp (ts : S128.Idx → BitVec 32) (b o : S2048.Idx → BitVec 32) (hb : ∀ x, (b x).toNat < 128) : ∀ (n g : Nat) (h : g + n = 128),
    iprop(((sT).view.loc (VT d L) ↦{fullShare} ts) ∗ ((sB).view.loc (VT d L) ↦{fullShare} b) ∗ ((sO).view.loc (VT d L) ↦{fullShare} filled ts b o g))
      ⊢ (wp frame (wpE (defs₀ (F := F)) 𝒱₀ (VT d L) none) Set.univ (groups L sT sB sO n g h)
          fun _ => iprop(((sT).view.loc (VT d L) ↦{fullShare} ts) ∗ ((sB).view.loc (VT d L) ↦{fullShare} b) ∗ ((sO).view.loc (VT d L) ↦{fullShare} filled ts b o 128)) : sProp 𝕄)
  | 0, g, h => by
    obtain rfl : g = 128 := by omega
    unfold groups
    rw [wp_pure]
    iintro H
    imodintro
    iexact H
  | n + 1, g, h => by
    unfold groups
    rw [wp_bind]
    exact (group_wp d L g (by omega) ts b o hb).trans (wp_mono frame _ _ fun _ => groups_wp ts b o hb n (g + 1) (by omega))

attribute [local irreducible] groups

theorem filled_all (ts : S128.Idx → BitVec 32) (b o : S2048.Idx → BitVec 32) : filled ts b o 128 = fun x => entry ts (b x) := by
  funext x
  exact if_pos (by have h : (x 0).val < 2048 := (x 0).isLt; omega)
theorem filled_none (ts : S128.Idx → BitVec 32) (b o : S2048.Idx → BitVec 32) : filled ts b o 0 = o := by
  funext x
  exact if_neg (by omega)

/-- The groups, all of them: the table and the indices kept, the results all gathered. -/
theorem groups_all (ts : S128.Idx → BitVec 32) (b o : S2048.Idx → BitVec 32) (hb : ∀ x, (b x).toNat < 128) (Q : PUnit → sProp 𝕄) :
    iprop(((sT).view.loc (VT d L) ↦{fullShare} ts) ∗ ((sB).view.loc (VT d L) ↦{fullShare} b) ∗ ((sO).view.loc (VT d L) ↦{fullShare} o))
      ⊢ (iprop((iprop(((sT).view.loc (VT d L) ↦{fullShare} ts) ∗ ((sB).view.loc (VT d L) ↦{fullShare} b)
            ∗ ((sO).view.loc (VT d L) ↦{fullShare} (fun x => entry ts (b x) : S2048.Idx → BitVec 32)))
          -∗ Q ⟨⟩)
        -∗ wp frame (wpE (defs₀ (F := F)) 𝒱₀ (VT d L) none) Set.univ (groups L sT sB sO 128 0 rfl) Q) : sProp 𝕄) := by
  rw [← filled_all ts b o]
  iintro H Hk
  have hG := groups_wp (F := F) d L ts b o hb 128 0 rfl
  rw [filled_none] at hG
  ihave HW := hG $$ H
  iapply (wp_wand frame _ _) $$ HW
  iintro %a H
  iapply Hk
  iexact H

/-! ## The tile's run -/

/-- The tile's slice of the indices and of the results, as the kernel slices them. -/
abbrev btRow (L : grid0.Coords) : Memref sig .scVector .hbm S2048 .i32 := (btW).slice (Rect.unit (s := S32768) (k0_off1 L) S2048.size (Facts₀.k0_off1_inb L)) (fun _ => rfl)
abbrev tvRow (L : grid0.Coords) : Memref sig .scVector .hbm S2048 .i32 := (tvW).slice (Rect.unit (s := S32768) (k0_off2 L) S2048.size (Facts₀.k0_off2_inb L)) (fun _ => rfl)

/-- The two slices lie at the same places. -/
theorem rows_emb (x : S2048.Idx) : (tvRow L).view.emb x = (btRow L).view.emb x := by
  have h : k0_off2 L = k0_off1 L := (k0_off2_eq L).trans (k0_off1_eq L).symm
  funext a
  apply Fin.ext
  show k0_off2 L a + 1 * (x a).val = k0_off1 L a + 1 * (x a).val
  rw [h]

/-- The tile's results written out are the gather on its slice. -/
theorem written_eq (ts : S128.Idx → BitVec 32) (bt tv : S32768.Idx → BitVec 32) (w : S2048.Idx → BitVec 32)
    (hw : ∀ x, w x = entry ts (bt ((btRow L).view.emb x))) :
    ((tvRow L).view.loc (VT d L) ↦[(tvRow L).view.set]{fullShare} (tvRow L).view.writes (Elt F) tv [⟨Rect.whole S2048, w⟩] : sProp 𝕄)
      = ((tvRow L).view.loc (VT d L) ↦[(tvRow L).view.set]{fullShare} gathered ts bt) := by
  refine pointsTo_congr fun i hi => ?_
  obtain ⟨x, -, rfl⟩ := Finset.mem_map.mp hi
  have h := congrFun (View.read_writes_whole (Val := Elt F) (tvRow L).view tv w) x
  rw [View.read_apply] at h
  refine ((cast_eq _ _).symm.trans h).trans ((hw x).trans ?_)
  unfold gathered
  rw [rows_emb]

theorem tile_run (q : PosShare TreeShare) (ts : S128.Idx → BitVec 32) (bt tv : S32768.Idx → BitVec 32) (hb : ∀ x, (bt x).toNat < 128)
    (O : CellTallies nD τ sig (HIx 1)) (W : Waits sig (HIx 1))
    (t0 : S128.Idx → BitVec 32) (b0 o0 : S2048.Idx → BitVec 32) :
    (iprop(Transfers.MayWaits (VT d L) (default : HIx 1) O
        ∗ ((tsW).view.loc (VT d L) ↦{q} ts)
        ∗ ((btRow L).view.loc (VT d L) ↦[(btRow L).view.set]{fullShare} bt)
        ∗ ((tvRow L).view.loc (VT d L) ↦[(tvRow L).view.set]{fullShare} tv)
        ∗ ((sT).view.loc (VT d L) ↦{fullShare} t0)
        ∗ ((sB).view.loc (VT d L) ↦{fullShare} b0)
        ∗ ((sO).view.loc (VT d L) ↦{fullShare} o0)
        ∗ semVal (VT d L, SemLoc.dma cc0_scoped0.sem) 0
        ∗ semVal (VT d L, SemLoc.dma cc0_scoped1.sem) 0
        ∗ semVal (VT d L, SemLoc.dma cc0_scoped2.sem) 0
        ∗ owes (VT d L) O W) : sProp 𝕄)
      ⊢ wp frame (wpE (defs₀ (F := F)) 𝒱₀ (VT d L) none) Set.univ
          (body L tsW (Memref.isWhole_whole _) btW tvW sT (Memref.isWhole_whole _) sB (Memref.isWhole_whole _) sO (Memref.isWhole_whole _)
            cc0_scoped0 cc0_scoped1 cc0_scoped2)
          fun _ => iprop(((tsW).view.loc (VT d L) ↦{q} ts)
            ∗ ((btRow L).view.loc (VT d L) ↦[(btRow L).view.set]{fullShare} bt)
            ∗ ((tvRow L).view.loc (VT d L) ↦[(tvRow L).view.set]{fullShare} gathered ts bt)
            ∗ (∃ f, (sT).view.loc (VT d L) ↦{fullShare} f)
            ∗ (∃ f, (sB).view.loc (VT d L) ↦{fullShare} f)
            ∗ (∃ f, (sO).view.loc (VT d L) ↦{fullShare} f)
            ∗ semVal (VT d L, SemLoc.dma cc0_scoped0.sem) 0
            ∗ semVal (VT d L, SemLoc.dma cc0_scoped1.sem) 0
            ∗ semVal (VT d L, SemLoc.dma cc0_scoped2.sem) 0
            ∗ ∃ W', ⌜∀ p ∈ W', p ∈ W ∨ p.2 = none⌝ ∗ owes (VT d L) O W') := by
  iintro ⟨#Hmw, Hts, Hbt, Htv, HT, HB, HR, Hc0, Hc1, Hc2, HO⟩
  unfold body
  generalize hG : groups (F := F) L sT sB sO 128 0 rfl = G
  sl_exec
  subst hG
  ihave HT := (Entails.of_eq (congrArg (fun f => ((sT).view.loc (VT d L) ↦{fullShare} f : sProp 𝕄)) (View.write_whole_univ (Val := Elt F) cc0_scratch0 t0 (tile_run.sl.dma0 (F := F) ts)))) $$ HT
  ihave HB := (Entails.of_eq (congrArg (fun f => ((sB).view.loc (VT d L) ↦{fullShare} f : sProp 𝕄)) (View.write_whole_univ (Val := Elt F) cc0_scratch1 b0 (tile_run.sl.dma0_1 (F := F) L bt)))) $$ HB
  have hT : tile_run.sl.dma0 (F := F) ts = ts := rfl
  have hB : tile_run.sl.dma0_1 (F := F) L bt = fun x => bt ((btRow L).view.emb x) := rfl
  rw [hT, hB, wp_bind]
  iapply (groups_all d L ts (fun x => bt ((btRow L).view.emb x)) o0 (fun x => hb _)) $$ [HT HB HR]
  · isplitl [HT]; · iexact HT
    isplitl [HB] <;> iassumption
  iintro ⟨HT, HB, HR⟩
  sl_exec
  have hW : ∀ x, tile_run.sl.dma0_2 (F := F) L ts bt x = entry ts (bt ((btRow L).view.emb x)) := fun _ => rfl
  ihave Htv := (Entails.of_eq (written_eq (F := F) d L ts bt tv _ hW)) $$ Htv
  rw [wp_ret]; imodintro
  isplitl [Hts]; · iexact Hts
  isplitl [Hbt]; · iexact Hbt
  isplitl [Htv]; · iexact Htv
  isplitl [HT]; · iexists _; iexact HT
  isplitl [HB]; · iexists _; iexact HB
  isplitl [HR]; · iexists _; iexact HR
  isplitl [Hc0]; · iexact Hc0
  isplitl [Hc1]; · iexact Hc1
  isplitl [Hc2]; · iexact Hc2
  iexists _
  isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.Tile

end
-- ==== Proof.Dispatch.lean ====
/-
  The SparseCore call as the launch sees it: what its handshakes carry, each tile's obligation, and the split of the arrays among the tiles.
-/
module

public import proofs.«01_k».proof.Proof.Tile

@[expose] public section

noncomputable section

namespace Cert.Proof.Dispatch

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Groups Cert.Proof.Tile

variable {F : FTy → Type} [FloatOps F]

local notation "𝕄" => MT nD τ sig (HIx 1) (Elt F) ℕ UU ℕ

local notation "tsW" => (Memref.whole Cert.KernelIdeal.main_arg3_scv : Memref Cert.KernelIdeal.sig Kind.scVector Space.hbm Cert.KernelIdeal.S128 EltTy.i32)
local notation "btW" => (Memref.whole Cert.KernelIdeal.main_arg4_scv : Memref Cert.KernelIdeal.sig Kind.scVector Space.hbm Cert.KernelIdeal.S32768 EltTy.i32)
local notation "tvW" => (Memref.whole Cert.KernelIdeal.main_v0_scv : Memref Cert.KernelIdeal.sig Kind.scVector Space.hbm Cert.KernelIdeal.S32768 EltTy.i32)
local notation "sT" => (Memref.whole Cert.KernelIdeal.cc0_scratch0 : Memref Cert.KernelIdeal.sig Kind.scVector Space.vmem Cert.KernelIdeal.S128 EltTy.i32)
local notation "sB" => (Memref.whole Cert.KernelIdeal.cc0_scratch1 : Memref Cert.KernelIdeal.sig Kind.scVector Space.vmem Cert.KernelIdeal.S2048 EltTy.i32)
local notation "sO" => (Memref.whole Cert.KernelIdeal.cc0_scratch2 : Memref Cert.KernelIdeal.sig Kind.scVector Space.vmem Cert.KernelIdeal.S2048 EltTy.i32)

variable (m : (ℓ : Loc nD τ sig) → Buf (Elt F) ℓ)

/-! ## The tiles' blocks -/

theorem hdiv : 16 ∣ S32768.size 0 := ⟨2048, rfl⟩
/-- Block `i` of 2048 of the 32768 rows. -/
abbrev blk (i : Fin 16) : Rect S32768 := Rect.part (s := S32768) (a₀ := 0) hdiv i

theorem blks_disjoint : ∀ i ∈ (Finset.univ : Finset (Fin 16)), ∀ j ∈ (Finset.univ : Finset (Fin 16)), i ≠ j → Disjoint (blk i).set (blk j).set :=
  fun _ _ _ _ h => Rect.part_disjoint hdiv h
theorem blks_cover : (Finset.univ : Finset (Fin 16)).biUnion (fun i => (blk i).set) = Finset.univ := Rect.biUnion_part hdiv

theorem off1_blk (L : grid0.Coords) : Rect.unit (s := S32768) (k0_off1 L) S2048.size (Facts₀.k0_off1_inb L) = blk (jL L) := by
  unfold blk Rect.part Rect.block
  congr 1 <;> funext a
  · rw [k0_off1_eq]
    obtain rfl : a = (0 : Fin 1) := Subsingleton.elim (α := Fin 1) _ _
    simp [Shape.partIx, Shape.partSize, Nat.mul_comm]
  · obtain rfl : a = (0 : Fin 1) := Subsingleton.elim (α := Fin 1) _ _
    simp [Shape.partSize]
theorem off2_blk (L : grid0.Coords) : Rect.unit (s := S32768) (k0_off2 L) S2048.size (Facts₀.k0_off2_inb L) = blk (jL L) := by
  unfold blk Rect.part Rect.block
  congr 1 <;> funext a
  · rw [k0_off2_eq]
    obtain rfl : a = (0 : Fin 1) := Subsingleton.elim (α := Fin 1) _ _
    simp [Shape.partIx, Shape.partSize, Nat.mul_comm]
  · obtain rfl : a = (0 : Fin 1) := Subsingleton.elim (α := Fin 1) _ _
    simp [Shape.partSize]

theorem btRow_set (L : grid0.Coords) : (btRow L).view.set = (blk (jL L)).set := by
  show ((View.whole (main_arg4_scv : Ref sig .scVector)).slice (Rect.unit (s := S32768) (k0_off1 L) S2048.size (Facts₀.k0_off1_inb L))).set = _
  rw [View.set_slice, off1_blk]; exact Finset.map_refl
theorem tvRow_set (L : grid0.Coords) : (tvRow L).view.set = (blk (jL L)).set := by
  show ((View.whole (main_v0_scv : Ref sig .scVector)).slice (Rect.unit (s := S32768) (k0_off2 L) S2048.size (Facts₀.k0_off2_inb L))).set = _
  rw [View.set_slice, off2_blk]; exact Finset.map_refl

/-! ## What the handshakes carry -/

/-- What the call leaves in its result. -/
abbrev result (d : Dev nD) : Buf (Elt F) (tvLoc d) := gathered (m (tsLoc d)) (m (btLoc d))

/-- The share of the table a tile reads it at. -/
abbrev tsShare (i : Fin 16) : PosShare TreeShare := Transfers.shareTok fullShare 16 i

abbrev whole3 (d : Dev nD) (f : Buf (Elt F) (tvLoc d)) : sProp 𝕄 :=
  iprop((tsLoc d ↦{fullShare} m (tsLoc d)) ∗ (btLoc d ↦{fullShare} m (btLoc d)) ∗ (tvLoc d ↦{fullShare} f))
abbrev part3 (d : Dev nD) (f : Buf (Elt F) (tvLoc d)) (i : Fin 16) : sProp 𝕄 :=
  iprop((tsLoc d ↦{tsShare i} m (tsLoc d)) ∗ (btLoc d ↦[(blk i).set]{fullShare} m (btLoc d)) ∗ (tvLoc d ↦[(blk i).set]{fullShare} f))

/-- The call takes the table, the indices and the result whole and brings them back, the result gathered; each tile
    takes a read share of the table and its block of the other two. -/
def P : (K (F := F)).Pay (nD := nD) (Val := Elt F) (Name := ℕ) (U := UU) where
  st := fun q d _ => match q with | 0 => whole3 m d (m (tvLoc d))
  dn := fun q d _ => match q with | 0 => whole3 m d (result m d)
  go := fun q d _ i => match q with | 0 => part3 m d (m (tvLoc d)) (Fin.cast nSub_zero i)
  td := fun q d _ i => match q with | 0 => part3 m d (result m d) (Fin.cast nSub_zero i)
  x := fun _ _ => iprop(emp)

instance P_storable : (P (F := F) m).IsStorable where
  st q d _ := match q with | 0 => (inferInstance : BI.Storable (upEmb : UEmb _ 𝕄) (whole3 m d (m (tvLoc d))))
  dn q d _ := match q with | 0 => (inferInstance : BI.Storable (upEmb : UEmb _ 𝕄) (whole3 m d (result m d)))
  go q d _ i := match q with | 0 => (inferInstance : BI.Storable (upEmb : UEmb _ 𝕄) (part3 m d (m (tvLoc d)) (Fin.cast nSub_zero i)))
  td q d _ i := match q with | 0 => (inferInstance : BI.Storable (upEmb : UEmb _ 𝕄) (part3 m d (result m d) (Fin.cast nSub_zero i)))

/-! ## A tile's obligation -/

section Own

variable (d : Dev nD) (L : grid0.Coords)

/-- The tile's three transfer semaphores. -/
abbrev cell0 : GSem nD τ sig := (VT d L, .dma cc0_scoped0.sem)
abbrev cell1 : GSem nD τ sig := (VT d L, .dma cc0_scoped1.sem)
abbrev cell2 : GSem nD τ sig := (VT d L, .dma cc0_scoped2.sem)

theorem ownSems0_V :
    (ownSems0 (VT d L) : sProp 𝕄)
      = iprop(semVal (cell0 d L) 0 ∗ semVal (cell1 d L) 0 ∗ semVal (cell2 d L) 0
          ∗ bigSep ((((ownCells (VT d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

theorem pts_bt (f : Buf (Elt F) (btLoc d)) :
    ((btRow L).view.loc (VT d L) ↦[(btRow L).view.set]{fullShare} f : sProp 𝕄) = btLoc d ↦[(blk (jL L)).set]{fullShare} f := by
  rw [btRow_set]
theorem pts_tv (f : Buf (Elt F) (tvLoc d)) :
    ((tvRow L).view.loc (VT d L) ↦[(tvRow L).view.set]{fullShare} f : sProp 𝕄) = tvLoc d ↦[(blk (jL L)).set]{fullShare} f := by
  rw [tvRow_set]

end Own

/-- Every index word names a row of the table. -/
def InTable : Prop := ∀ (d : Dev nD) (x : S32768.Idx), (m (btLoc d) x : BitVec 32).toNat < 128

theorem tile_body (hF : (K (F := F)).Facts) (hb : InTable m) (d : Dev nD) (L : grid0.Coords) (O : CellTallies nD τ sig (HIx 1)) (W : Waits sig (HIx 1))
    (hO : ∀ g, O g none = 0) :
    iprop(levAts (K (F := F)).L (K (F := F)).lev ∗ emp ∗ part3 m d (m (tvLoc d)) (jL L)
        ∗ scopedBufs (VT d L) ∗ scopedSems0 (VT d L) ∗ owes (VT d L) O W)
      ⊢ wp frame (wpE (defs₀ (F := F)) 𝒱₀ (VT d L) none) Set.univ
          (cc0__sc_gather_t L tsW (Memref.isWhole_whole _) btW (Memref.isWhole_whole _) tvW (Memref.isWhole_whole _)
            sT (Memref.isWhole_whole _) sB (Memref.isWhole_whole _) sO (Memref.isWhole_whole _) cc0_scoped0 cc0_scoped1 cc0_scoped2)
          fun _ => iprop(part3 m d (result m d) (jL L) ∗ scopedBufs (VT d L) ∗ scopedSems0 (VT d L)
            ∗ ∃ W', ⌜∀ p ∈ W', p ∈ W ∨ p.2 = none⌝ ∗ owes (VT d L) O W') := by
  rw [kernel_eq, (K (F := F)).scopedBufs_V hF d (cV L) (jV L), SparseCore.Cfg.scopedSems0_V (Val := Elt F) d (cV L) (jV L), ownSems0_V, ownBufs_V]
  iintro ⟨#Hlv, -, ⟨Hts, Hbt, Htv⟩, ⟨⟨%t0, HT⟩, ⟨%b0, HB⟩, ⟨%o0, HR⟩, Hbufs⟩, ⟨Hc0, Hc1, Hc2, Hsems⟩, HO⟩
  ihave Hmw := ((K (F := F)).mayWaits_none (thr := VT d L) hO) $$ Hlv
  ihave Hbt := (Entails.of_eq (pts_bt (F := F) d L _).symm) $$ Hbt
  ihave Htv := (Entails.of_eq (pts_tv (F := F) d L _).symm) $$ Htv
  ihave HW := (tile_run d L (tsShare (jL L)) (m (tsLoc d)) (m (btLoc d)) (m (tvLoc d)) (hb d) O W t0 b0 o0) $$ [Hmw Hts Hbt Htv HT HB HR Hc0 Hc1 Hc2 HO]
  · isplitl [Hmw]; · iexact Hmw
    isplitl [Hts]; · iexact Hts
    isplitl [Hbt]; · iexact Hbt
    isplitl [Htv]; · iexact Htv
    isplitl [HT]; · iexact HT
    isplitl [HB]; · iexact HB
    isplitl [HR]; · iexact HR
    isplitl [Hc0]; · iexact Hc0
    isplitl [Hc1]; · iexact Hc1
    isplitl [Hc2]; · iexact Hc2
    iexact HO
  iapply (wp_wand frame _ _) $$ HW
  iintro %_ ⟨Hts, Hbt, Htv, HT, HB, HR, Hc0, Hc1, Hc2, %W', %hW', HO⟩
  ihave Hbt := (Entails.of_eq (pts_bt (F := F) d L _)) $$ Hbt
  ihave Htv := (Entails.of_eq (pts_tv (F := F) d L _)) $$ Htv
  isplitl [Hts Hbt Htv]
  · isplitl [Hts]; · iexact Hts
    isplitl [Hbt]; · iexact Hbt
    iexact Htv
  isplitl [HT HB HR Hbufs]
  · isplitl [HT]; · iexact HT
    isplitl [HB]; · iexact HB
    isplitl [HR]; · iexact HR
    iexact Hbufs
  isplitl [Hc0 Hc1 Hc2 Hsems]
  · isplitl [Hc0]; · iexact Hc0
    isplitl [Hc1]; · iexact Hc1
    isplitl [Hc2]; · iexact Hc2
    iexact Hsems
  iexists W'; isplitr
  · ipureintro; exact hW'
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__sc_gather_t (coordsV c s)
          tsW (Memref.isWhole_whole _) btW (Memref.isWhole_whole _) tvW (Memref.isWhole_whole _)
          sT (Memref.isWhole_whole _) sB (Memref.isWhole_whole _) sO (Memref.isWhole_whole _) cc0_scoped0 cc0_scoped1 cc0_scoped2) ⟨⟩ c s := rfl

/-- Fewer waits recorded than the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ SparseCore.Cfg.Blocks.blk q p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 20000 in
theorem tileObl (hF : (K (F := F)).Facts) (hb : InTable m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hi : Fin.cast nSub_zero i = jL (coordsV ⟨_, hc.1⟩ ⟨_, hc.2⟩) := Fin.ext rfl
  have h := (tile_body m hF hb d (coordsV ⟨_, hc.1⟩ ⟨_, hc.2⟩) O W hO).trans (wp_mono frame _ _ fun _ => waits_weaken (q := 0))
  rw [← hi] at h
  exact h

/-! ## The arrays dealt to the tiles and gathered back -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bt_blks (d : Dev nD) (f : Buf (Elt F) (btLoc d)) :
    (btLoc d ↦{fullShare} f : sProp 𝕄) = bigSep Finset.univ fun i : Fin 16 => btLoc d ↦[(blk i).set]{fullShare} f := by
  rw [← pointsTo_biUnion Finset.univ (ℓ := btLoc d) (fun i => (blk i).set) blks_disjoint, blks_cover]; try rfl
theorem tv_blks (d : Dev nD) (f : Buf (Elt F) (tvLoc d)) :
    (tvLoc d ↦{fullShare} f : sProp 𝕄) = bigSep Finset.univ fun i : Fin 16 => tvLoc d ↦[(blk i).set]{fullShare} f := by
  rw [← pointsTo_biUnion Finset.univ (ℓ := tvLoc d) (fun i => (blk i).set) blks_disjoint, blks_cover]; try rfl

theorem vecSplit : (K (F := F)).VecSplit' (P m) 0 := by
  intro d c
  show whole3 m d (m (tvLoc d)) ⊢ |={Set.univ}=> iprop(
      (bigSep Finset.univ fun i : Fin ((K (F := F)).nSub 0) => part3 m d (m (tvLoc d)) (Fin.cast nSub_zero i))
      ∗ ((bigSep Finset.univ fun i : Fin ((K (F := F)).nSub 0) => part3 m d (result m d) (Fin.cast nSub_zero i)) -∗ whole3 m d (result m d)))
  rw [bigSep_tasks (F := F) (part3 m d (m (tvLoc d))), bigSep_tasks (F := F) (part3 m d (result m d))]
  unfold whole3 part3
  rw [bigSep_sep', bigSep_sep', bigSep_sep', bigSep_sep', bt_blks, tv_blks, tv_blks]
  iintro ⟨Hts, Hbt, Htv⟩
  ihave Hts := (Transfers.pointsTo_toks_split (ℓ := tsLoc d) (S := Finset.univ) (f := m (tsLoc d)) fullShare 16) $$ Hts
  icases Hts with ⟨Hrest, Htoks⟩
  imodintro
  isplitl [Htoks Hbt Htv]
  · isplitl [Htoks]; · iexact Htoks
    isplitl [Hbt] <;> iassumption
  iintro ⟨Htoks, Hbt, Htv⟩
  isplitl [Hrest Htoks]
  · iapply (Transfers.pointsTo_toks_join (ℓ := tsLoc d) (S := Finset.univ) (f := m (tsLoc d)) fullShare 16)
    isplitl [Hrest] <;> iassumption
  isplitl [Hbt] <;> iassumption

end Cert.Proof.Dispatch

end
-- ==== Proof.Block.lean ====
/-
  The TensorCore kernel at one grid point: from its input blocks to its two output blocks.
-/
module

public import proofs.«01_k».proof.Proof.Setup
public import proofs.«01_k».proof.Proof.Gen.KernelIdeal.Skeleton
public import proofs.«01_k».proof.Proof.Gen.KernelIdeal.Points

@[expose] public section

noncomputable section

namespace Cert.Proof.Block

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The block of log probabilities: of the block `x` of log probabilities, the classes `xt`, the times `tt` and the table `tb`. -/
def lpBlk (x : Vec F S4096x128 .f32) (xt tt : Vec F S4096x1 .i32) (tb : Vec F S64x8 .f32) : Vec F S4096x128 .f32 :=
  k1_pay8 x (k1_pay2 tb tt) (k1_pay3 tb tt) (k1_pay4 tb tt) (k1_pay5 xt) (k1_pay6 tb tt) (k1_pay7 tb tt)

/-- The column of drawn classes: of the same and the block `g` of uniform draws. -/
def smBlk (x g : Vec F S4096x128 .f32) (xt tt : Vec F S4096x1 .i32) (tb : Vec F S64x8 .f32) : Vec F S4096x1 .i32 :=
  k1_pay9 x (k1_pay2 tb tt) (k1_pay3 tb tt) (k1_pay4 tb tt) (k1_pay5 xt) (k1_pay6 tb tt) (k1_pay7 tb tt) g

theorem zeros2 : (![0, 0] : Fin 2 → Nat) = fun _ => 0 := funext fun a => by fin_cases a <;> rfl

/-- One store through a whole memref leaves what it stored. -/
theorem read_stored {S : Shape} {e : EltTy} (M : Memref sig .tc .vmem S e) (f : M.view.ty.Contents (Elt F)) {off : Fin S.rank → Nat}
    (hoff : off = fun _ => 0) (inb : ∀ a, off a + S.size a ≤ S.size a) (w : S.Idx → Elt F e) :
    M.view.read (Elt F) (M.view.writes (Elt F) f [⟨Rect.unit off S.size inb, w⟩]) = w := by
  subst hoff; exact View.read_writes_whole M.view f w

/-- The body from its input blocks: the two output blocks hold what the block functions say, the inputs stay. -/
theorem body_run (c : Dev nD) (i : grid1.Coords)
    (M1 : Memref sig .tc .vmem S4096x128 .f32) (h1 : M1.IsWhole) (M2 : Memref sig .tc .vmem S4096x128 .f32) (h2 : M2.IsWhole)
    (M3 : Memref sig .tc .vmem S4096x1 .i32) (h3 : M3.IsWhole) (M4 : Memref sig .tc .vmem S4096x1 .i32) (h4 : M4.IsWhole)
    (M5 : Memref sig .tc .vmem S64x8 .f32) (h5 : M5.IsWhole) (M6 : Memref sig .tc .vmem S4096x128 .f32) (h6 : M6.IsWhole)
    (M7 : Memref sig .tc .vmem S4096x1 .i32) (h7 : M7.IsWhole)
    (X1 X2 X6 : Vec F S4096x128 .f32) (X3 X4 X7 : Vec F S4096x1 .i32) (X5 : Vec F S64x8 .f32) :
    (iprop(owns c M1 fullShare X1 ∗ owns c M2 fullShare X2 ∗ owns c M3 fullShare X3 ∗ owns c M4 fullShare X4 ∗ owns c M5 fullShare X5
        ∗ owns c M6 fullShare X6 ∗ owns c M7 fullShare X7) : sProp 𝕄)
      ⊢ wp frame (wpE (defs₀ (F := F)) 𝒱₀ (c : Thread nD τ) none) Set.univ (cc1__body i M1 h1 M2 h2 M3 h3 M4 h4 M5 h5 M6 h6 M7 h7)
          fun _ => iprop(owns c M1 fullShare X1 ∗ owns c M2 fullShare X2 ∗ owns c M3 fullShare X3 ∗ owns c M4 fullShare X4 ∗ owns c M5 fullShare X5
        ∗ owns c M6 fullShare (lpBlk X1 X3 X4 X5) ∗ owns c M7 fullShare (smBlk X1 X2 X3 X4 X5)) := by
  rw [cc1__body_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  sl_unfold [cc1__body_skel]
  sl_exec
  have l1 : View.ld X1 (Rect.unit (s := S4096x128) ![0, 0] S4096x128.size inb_S4096x128_S4096x128_0_0) = X1 := View.ld_unit_zero zeros2 _ _
  have l2 : View.ld X2 (Rect.unit (s := S4096x128) ![0, 0] S4096x128.size inb_S4096x128_S4096x128_0_0) = X2 := View.ld_unit_zero zeros2 _ _
  have l3 : View.ld X3 (Rect.unit (s := S4096x1) ![0, 0] S4096x1.size inb_S4096x1_S4096x1_0_0) = X3 := View.ld_unit_zero zeros2 _ _
  have l4 : View.ld X4 (Rect.unit (s := S4096x1) ![0, 0] S4096x1.size inb_S4096x1_S4096x1_0_0) = X4 := View.ld_unit_zero zeros2 _ _
  have l5 : View.ld X5 (Rect.unit (s := S64x8) ![0, 0] S64x8.size inb_S64x8_S64x8_0_0) = X5 := View.ld_unit_zero zeros2 _ _
  have q6 : k1_pay8 (body_run.sl.r c M1 f1) (body_run.sl.r_1 c M4 M5 f4 f5) (body_run.sl.r_2 c M4 M5 f4 f5)
      (body_run.sl.r_3 c M4 M5 f4 f5) (body_run.sl.r_4 c M3 f3) (body_run.sl.r_5 c M4 M5 f4 f5)
      (body_run.sl.r_6 c M4 M5 f4 f5) = lpBlk X1 X3 X4 X5 := by
    subst e1 e2 e3 e4 e5
    refine Eq.trans ?_ (congr (congr (congr (congrArg lpBlk l1) l3) l4) l5)
    rfl
  have q7 : body_run.sl.r_7 c M1 M2 M3 M4 M5 f1 f2 f3 f4 f5 = smBlk X1 X2 X3 X4 X5 := by
    subst e1 e2 e3 e4 e5
    refine Eq.trans ?_ (congr (congr (congr (congr (congrArg smBlk l1) l2) l3) l4) l5)
    rfl
  rw [q6, q7]
  rw [wp_ret]; imodintro
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]
  · iexists _; isplitr; swap; · iexact H6
    ipureintro; exact read_stored M6 f6 zeros2 _ _
  · iexists _; isplitr; swap; · iexact H7
    ipureintro; exact read_stored M7 f7 zeros2 _ _

end Cert.Proof.Block

end
-- ==== Proof.Region.lean ====
/-
  The TensorCore pipeline of the launch as a region of the program: entered from any contents of the arrays, left with
  its two results written.
-/
module

public import proofs.«01_k».proof.Proof.Block
public import Idealize.ShloMosaic.Lib.Pipeline.RegionsLoop

@[expose] public section

noncomputable section

namespace Cert.Proof.Region

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Proof.Block (lpBlk smBlk)

variable {F : FTy → Type} [FloatOps F]

local notation "𝕄" => MT nD τ sig (HIx 1) (Elt F) ℕ UU ℕ

/-- What every array the TensorCore names holds. -/
abbrev Arrs : Type := (d : Dev nD) → (b : Ref sig .tc) → Buf (Elt F) ((d : Thread nD τ).loc b)

variable (V : Arrs (F := F)) (lim : ℕ)

/-- Window `w`'s block at point `t`, off its array. -/
abbrev blkOf (d : Dev nD) (w : Fin cfg1.W) (t : Fin cfg1.N) : ((cfg1.win w).xblock (cfg1.grid.coords t)).Idx → Elt F (cfg1.win w).elt :=
  ((cfg1.win w).blk t).view.read (Elt F) (V d (Pipeline.arrRef spec1 w))

/-- The two output blocks at point `t`. -/
abbrev lpAt (d : Dev nD) (t : Fin cfg1.N) : Vec F S4096x128 .f32 :=
  lpBlk (blkOf V d 0 t) (blkOf V d 2 t) (blkOf V d 3 t) (blkOf V d 4 t)
abbrev smAt (d : Dev nD) (t : Fin cfg1.N) : Vec F S4096x1 .i32 :=
  smBlk (blkOf V d 0 t) (blkOf V d 1 t) (blkOf V d 2 t) (blkOf V d 3 t) (blkOf V d 4 t)

/-- The proof data: inputs stay, outputs as the block functions say; nothing owed; the recorded waits at or below `lim`. -/
def dat (d : Dev nD) : Dat τ (Elt F) (HIx 1) ℕ UU ℕ cfg1 d where
  A w := V d (Pipeline.arrRef spec1 w)
  after w t := match w with
    | ⟨0, _⟩ => blkOf V d 0 t
    | ⟨1, _⟩ => blkOf V d 1 t
    | ⟨2, _⟩ => blkOf V d 2 t
    | ⟨3, _⟩ => blkOf V d 3 t
    | ⟨4, _⟩ => blkOf V d 4 t
    | ⟨5, _⟩ => lpAt V d t
    | ⟨6, _⟩ => smAt V d t
  Φ _ := Pipeline.scopedRest (Ix := HIx 1) (Name := ℕ) (U := UU) (Lvl := ℕ) (Val := Elt F) spec1 d
  q _ := fullShare
  owed _ := 0
  recorded _ := {p | (K (F := F)).lev (T d, p.1) p.2 ≤ lim}

/-! ## What an input's buffer holds when the body runs -/

theorem before_0 (d : Dev nD) (t : Fin cfg1.N) (e) : (dat V lim d).before 0 t e = blkOf V d 0 t :=
  ((dat V lim d).before_in_eq_fetched 0 rfl (fun _ => rfl) (fun _ _ _ => rfl) (fun _ => rfl) t e).trans rfl
theorem before_1 (d : Dev nD) (t : Fin cfg1.N) (e) : (dat V lim d).before 1 t e = blkOf V d 1 t :=
  ((dat V lim d).before_in_eq_fetched 1 rfl (fun _ => rfl) (fun _ _ _ => rfl) (fun _ => rfl) t e).trans rfl
theorem before_2 (d : Dev nD) (t : Fin cfg1.N) (e) : (dat V lim d).before 2 t e = blkOf V d 2 t :=
  ((dat V lim d).before_in_eq_fetched 2 rfl (fun _ => rfl) (fun _ _ _ => rfl) (fun _ => rfl) t e).trans rfl
theorem before_3 (d : Dev nD) (t : Fin cfg1.N) (e) : (dat V lim d).before 3 t e = blkOf V d 3 t :=
  ((dat V lim d).before_in_eq_fetched 3 rfl (fun _ => rfl) (fun _ _ _ => rfl) (fun _ => rfl) t e).trans rfl
theorem before_4 (d : Dev nD) (t : Fin cfg1.N) (e) : (dat V lim d).before 4 t e = blkOf V d 4 t :=
  ((dat V lim d).before_in_eq_fetched 4 rfl (fun _ => rfl) (fun _ _ _ => rfl) (fun _ => rfl) t e).trans rfl

/-- The body obligation: `body_run` at the point's buffers. -/
theorem obligation (d : Dev nD) : BodyObligation (dat V lim d) (defs₀ (F := F)) 𝒱₀ none Set.univ := fun t => by
  rw [bigSep_W1, bigSep_W1, show (dat V lim d).Φ t.castSucc = (dat V lim d).Φ t.succ from rfl,
    show (dat V lim d).owesAt none t.castSucc = (dat V lim d).owesAt none t.succ from rfl]
  iintro ⟨HΦ, HO, ⟨%e0, H0⟩, ⟨%e1, H1⟩, ⟨%e2, H2⟩, ⟨%e3, H3⟩, ⟨%e4, H4⟩, ⟨%e5, H5⟩, ⟨%e6, H6⟩⟩
  rw [before_0, before_1, before_2, before_3, before_4]
  have hb := Block.body_run (F := F) d (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (win1_6.stage (cfg1.slots t 6)) (hstage1_6 ((cfg1.slots t 6).cast nbuf1_6))
    (blkOf V d 0 t) (blkOf V d 1 t) ((dat V lim d).before 5 t e5) (blkOf V d 2 t) (blkOf V d 3 t) ((dat V lim d).before 6 t e6) (blkOf V d 4 t)
  ihave HW := hb $$ [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iapply (wp_wand frame _ _) $$ HW
  iintro %_ ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## The region -/

variable (adm : (p : Fin 1) → (pcfgs (F := F) p).Adm)

/-- The proof data of the launch's one pipeline. -/
def dats : (p : Fin 1) → (d : Dev nD) → Dat τ (Elt F) (HIx 1) ℕ UU ℕ (Pipeline.pin (pcfgs (F := F)) adm p) d
  | ⟨0, _⟩ => fun d => dat V lim d

/-- The two results' arrays after the region. -/
def lpOut (d : Dev nD) : Buf (Elt F) ((d : Thread nD τ).loc main_v8_0) := (dat V lim d).arrAt 5 cfg1.N
def smOut (d : Dev nD) : Buf (Elt F) ((d : Thread nD τ).loc main_v8_1) := (dat V lim d).arrAt 6 cfg1.N

variable (V' : Arrs (F := F))

/-- A waiting set at or below the bound. -/
abbrev owesLe (d : Dev nD) : sProp 𝕄 :=
  iprop(∃ W, ⌜(K (F := F)).WBelow (T d) W lim⌝ ∗ owes (d : Thread nD τ) (0 : CellTallies nD τ sig (HIx 1)) W)

set_option backward.isDefEq.respectTransparency.types false in
/-- The region: from the arrays at `V` to the arrays at `V'`, which has the results and else is `V`; beside it `R` stays. -/
def reg (R : Dev nD → sProp 𝕄) (hlp : ∀ d, V' d main_v8_0 = lpOut V lim d) (hsm : ∀ d, V' d main_v8_1 = smOut V lim d)
    (hne : ∀ d (b : Ref sig .tc), b ≠ main_v8_0 → b ≠ main_v8_1 → V' d b = V d b) :
    Pipeline.RegionSeg (pcfgs (F := F)) adm (dats V lim adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody d := (obligation V lim d).loose
  hwaits := Pipeline.hwaits_of_owed_zero _ _ _ _ _ _ 0 fun _ _ => rfl
  pre d := iprop(unscopedBufs d (V d) ∗ R d ∗ owesLe lim d)
  post d := iprop(unscopedBufs d (V' d) ∗ R d ∗ owesLe lim d)
  X _ := BI.emp
  Y _ := BI.emp
  Z d := iprop(Pipeline.unscopedRest (Ix := HIx 1) (Name := ℕ) (U := UU) (Lvl := ℕ) spec1 d (V d) ∗ R d)
  hentry d := by
    rw [Pipeline.ownSems0_none]
    have hsplit := Pipeline.arrays_of_unscopedBufs (p := 0) (pcfgs (F := F)) adm (dats V lim adm) (launch1).win (launch1).arr_whole d
      ((dats V lim adm 0 d).share_full fun _ => rfl) (V d) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, %hW, HO⟩; iexists W; isplitr; · ipureintro; exact fun p hp => Or.inl (hW p hp)
      iexact HO
    isplitr; · iempintro
    isplitl [Hrest] <;> iassumption
  hin d := by
    rw [show (dats V lim adm 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (dats V lim adm 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) (launch1).win (launch1).arr_whole d
      (dats V lim adm) ((dats V lim adm 0 d).share_full fun _ => rfl) (V d) (V' d) ((dats V lim adm 0 d).arrAt · cfg1.N)
      (fun w => by
        fin_cases w
        · exact ((dats V lim adm 0 d).arrAt_in 0 rfl _).trans (hne d main_arg0 (by decide) (by decide)).symm
        · exact ((dats V lim adm 0 d).arrAt_in 1 rfl _).trans (hne d main_arg1 (by decide) (by decide)).symm
        · exact ((dats V lim adm 0 d).arrAt_in 2 rfl _).trans (hne d main_v1 (by decide) (by decide)).symm
        · exact ((dats V lim adm 0 d).arrAt_in 3 rfl _).trans (hne d main_v2 (by decide) (by decide)).symm
        · exact ((dats V lim adm 0 d).arrAt_in 4 rfl _).trans (hne d main_v7 (by decide) (by decide)).symm
        · exact (hlp d).symm
        · exact (hsm d).symm)
      (fun b hb => hne d b (fun h => hb (h ▸ Finset.mem_image.mpr ⟨5, Finset.mem_univ _, rfl⟩))
        (fun h => hb (h ▸ Finset.mem_image.mpr ⟨6, Finset.mem_univ _, rfl⟩)))
    iintro ⟨Ha, HO, -, Hrest, HR⟩
    imodintro
    isplitl [Ha Hrest]
    · iapply hjoin; isplitl [Ha] <;> iassumption
    isplitl [HR]; · iexact HR
    icases HO with ⟨%W, %hW, HO⟩; iexists W; isplitr
    · ipureintro
      intro p hp
      rcases hW hp with h | ⟨w, s, h⟩
      · exact h
      · rw [h]; exact Nat.zero_le _
    iexact HO

end Cert.Proof.Region

end
-- ==== Proof.Run.lean ====
/-
  The program's run: the host operations, the SparseCore call and the TensorCore region in order, over the arrays' contents.
-/
module

public import proofs.«01_k».proof.Proof.Dispatch
public import proofs.«01_k».proof.Proof.Region
public import Idealize.ShloMosaic.Lib.Pipeline.Frame

@[expose] public section

noncomputable section

namespace Cert.Proof.Run

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.ShloMosaic.StableHlo (held held_sub_split held_congr wp_hlo_within)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dispatch Cert.Proof.Region

variable {F : FTy → Type} [FloatOps F]

local notation "𝕄" => MT nD τ sig (HIx 1) (Elt F) ℕ UU ℕ

/-- A TensorCore reference as the device's. -/
abbrev rf (b : Ref sig .tc) : DevRef τ sig := Proc.devRef .tc b
/-- The TensorCore's unscoped arrays. -/
abbrev US : Finset (DevRef τ sig) := ucRefs τ sig

variable (m : (ℓ : Loc nD τ sig) → Buf (Elt F) ℓ)

/-! ## The host operations -/

abbrev oCst : HloOp τ sig (Elt F) := StableHlo.nullary main_cst (fun i => FloatOps.ofBits .f32 (lit0 (S64x8.rowMajor i)))
abbrev oCst0 : HloOp τ sig (Elt F) := StableHlo.nullary main_cst_0 (fun i => FloatOps.ofBits .f32 (lit1 (S64x8.rowMajor i)))
abbrev oCst1 : HloOp τ sig (Elt F) := StableHlo.nullary main_cst_1 (fun i => FloatOps.ofBits .f32 (lit2 (S64x8.rowMajor i)))
abbrev oV1 : HloOp τ sig (Elt F) := StableHlo.reshape main_arg2 main_v1 (rfl : (.i32 : EltTy) = .i32) Facts₀.shapeCasts_S32768_S32768x1
abbrev oV2 : HloOp τ sig (Elt F) := StableHlo.reshape main_v0 main_v2 (rfl : (.i32 : EltTy) = .i32) Facts₀.shapeCasts_S32768_S32768x1
abbrev oV3 : HloOp τ sig (Elt F) := StableHlo.binary main_cst main_cst_0 main_v3 addf
abbrev oCst2 : HloOp τ sig (Elt F) := StableHlo.nullary main_cst_2 (constant S_ .f32 0x0DA24260#32)
abbrev oV4 : HloOp τ sig (Elt F) := StableHlo.unary main_cst_2 main_v4 Host.log
abbrev oV5 : HloOp τ sig (Elt F) := StableHlo.unary main_v4 main_v5 (broadcastInDim S64x8 ![] Facts₀.bcast_S_S64x8)
abbrev oV6 : HloOp τ sig (Elt F) := StableHlo.binary main_cst_1 main_v5 main_v6 mulf
abbrev oV7 : HloOp τ sig (Elt F) := StableHlo.binary main_v3 main_v6 main_v7 addf
abbrev oV9 : HloOp τ sig (Elt F) := StableHlo.reshape main_v8_1 main_v9 (rfl : (.i32 : EltTy) = .i32) Facts₀.shapeCasts_S32768x1_S32768

/-- The arrays at the launch, before the SparseCore call, after it, before the region, after it, at the end. -/
def val0 (d : Dev nD) : Valuation τ sig (Elt F) := fun b => m (d, b)
def val1 (d : Dev nD) : Valuation τ sig (Elt F) := StableHlo.after [oCst, oCst0, oCst1] (val0 m d)
def val2 (d : Dev nD) : Valuation τ sig (Elt F) := Function.update (val1 m d) (rf main_v0) (result m d)
def val3 (d : Dev nD) : Valuation τ sig (Elt F) := StableHlo.after [oV1, oV2, oV3, oCst2, oV4, oV5, oV6, oV7] (val2 m d)
/-- What the region is entered from. -/
def arrs (d : Dev nD) (b : Ref sig .tc) : Buf (Elt F) ((d : Thread nD τ).loc b) := val3 m d (rf b)
/-- The level the TensorCore's waits end at or below. -/
abbrev lim : ℕ := 8
def val4 (d : Dev nD) : Valuation τ sig (Elt F) :=
  Function.update (Function.update (val3 m d) (rf main_v8_0) (lpOut (arrs m) lim d)) (rf main_v8_1) (smOut (arrs m) lim d)
def val5 (d : Dev nD) : Valuation τ sig (Elt F) := (oV9 (F := F)).result (val4 m d)

/-! ## The launch's ghost state -/

abbrev adm : (p : Fin 1) → (pcfgs (F := F) p).Adm := fun p => (cfgs p).toPCfg_adm
abbrev pins : (p : Fin 1) → Pipeline.Cfg sig Λ₀ := Pipeline.pin (pcfgs (F := F)) adm
theorem pins_inj : Function.Injective (Pipeline.cellOf (nD := nD) (τ := τ) (pins (F := F))) := cellOf_inj

def uP : UK := initOf (Pipeline.cells (pins (F := F)) pins_inj) (Pipeline.launchToks (pins (F := F)) pins_inj)
def u₀ : UU := (initOf (K (F := F)).hsCells (K (F := F)).hsToks, (uP (F := F), 1))

theorem own_split (a : UH) (b : UK) : (ownU ((a, (b, 1)) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- A core's share of the pipeline's ghost state. -/
abbrev G (d : Dev nD) : sProp 𝕄 :=
  iprop((bigSep Finset.univ fun p : Fin 1 => Pipeline.cellsGhost (pins (F := F)) EP p d)
    ∗ (bigSep Finset.univ fun p : Fin 1 => Pipeline.toksInit (pins (F := F)) EP p d))

theorem x_emp : (bigSep Finset.univ fun thr : Thread nD τ => bigSep Finset.univ fun q : Fin 1 => (P (F := F) m).x q thr) = (iprop(emp) : sProp 𝕄) := by
  show (bigSep Finset.univ fun _ : Thread nD τ => bigSep Finset.univ fun _ : Fin 1 => iprop(emp)) = _
  exact (bigSep_congr fun _ _ => bigSep_emp_const _).trans (bigSep_emp_const _)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀ uP
  rw [x_emp, bigSep_sep']
  iintro Hu
  ihave H := (own_split _ _) $$ Hu
  icases H with ⟨HH, HK⟩
  imod (Pipeline.fund_ghost (pins (F := F)) EP pins_inj) $$ HK with ⟨Hc, Ht⟩
  imodintro
  isplitl [HH]; · iexact HH
  isplitl [Hc Ht]
  · isplitl [Hc]; · iexact Hc
    iexact Ht
  iempintro

/-! ## @main on the TensorCore -/

theorem unscoped_held (d : Dev nD) (W : Valuation τ sig (Elt F)) :
    (unscopedBufs d (fun b => W (rf b)) : sProp 𝕄) = held (T d) US W := Pipeline.unscopedBufs_held d W

abbrev three : Finset (DevRef τ sig) := {rf main_arg3, rf main_arg4, rf main_v0}
theorem three_sub : three ⊆ US := by decide

theorem held_three (d : Dev nD) (W : Valuation τ sig (Elt F)) :
    (held (T d) three W : sProp 𝕄) = iprop((tsLoc d ↦{fullShare} W (rf main_arg3)) ∗ (btLoc d ↦{fullShare} W (rf main_arg4)) ∗ (tvLoc d ↦{fullShare} W (rf main_v0))) := by
  unfold held three
  rw [SparseCore.bigSep_insert' (by decide), SparseCore.bigSep_insert' (by decide), bigSep_singleton]

theorem val1_three (d : Dev nD) (b : Ref sig .tc) (hb : b = main_arg3 ∨ b = main_arg4 ∨ b = main_v0) : val1 m d (rf b) = m (d, rf b) := by
  unfold val1
  rcases hb with rfl | rfl | rfl <;> after_results_simp <;> rfl

theorem st0_eq (d : Dev nD) : (bigSep Finset.univ fun c : Fin ((K (F := F)).nCore 0) => (P m).st 0 d c) = whole3 m d (m (tvLoc d)) :=
  bigSep_univ_of_subsingleton (0 : Fin 1)
theorem dn0_eq (d : Dev nD) : (bigSep Finset.univ fun c : Fin ((K (F := F)).nCore 0) => (P m).dn 0 d c) = whole3 m d (result m d) :=
  bigSep_univ_of_subsingleton (0 : Fin 1)

/-- The SparseCore call's arrays out of the rest, and back. -/
theorem held_before (d : Dev nD) : (held (T d) US (val1 m d) : sProp 𝕄) = iprop(whole3 m d (m (tvLoc d)) ∗ held (T d) (US \ three) (val1 m d)) := by
  rw [held_sub_split (T d) three_sub, held_three, val1_three m d _ (.inl rfl), val1_three m d _ (.inr (.inl rfl)), val1_three m d _ (.inr (.inr rfl))]
theorem held_after (d : Dev nD) : iprop(whole3 m d (result m d) ∗ held (T d) (US \ three) (val1 m d)) = (held (T d) US (val2 m d) : sProp 𝕄) := by
  have e : (held (T d) (US \ three) (val2 m d) : sProp 𝕄) = held (T d) (US \ three) (val1 m d) :=
    held_congr (T d) fun b hb =>
      Function.update_of_ne (fun e : b = rf main_v0 => (Finset.mem_sdiff.mp hb).2 (by rw [e]; decide)) _ _
  rw [held_sub_split (T d) three_sub (val2 m d), held_three, e]
  unfold val2
  rw [Function.update_self, Function.update_of_ne (show rf main_arg3 ≠ rf main_v0 by decide), Function.update_of_ne (show rf main_arg4 ≠ rf main_v0 by decide),
    val1_three m d _ (.inl rfl), val1_three m d _ (.inr (.inl rfl))]

/-! The host operations name unscoped arrays only. -/

theorem sCst : (oCst (F := F)).bufs ⊆ US := show ({rf main_cst} : Finset (DevRef τ sig)) ⊆ US by decide
theorem sCst0 : (oCst0 (F := F)).bufs ⊆ US := show ({rf main_cst_0} : Finset (DevRef τ sig)) ⊆ US by decide
theorem sCst1 : (oCst1 (F := F)).bufs ⊆ US := show ({rf main_cst_1} : Finset (DevRef τ sig)) ⊆ US by decide
theorem sV1 : (oV1 (F := F)).bufs ⊆ US := show ({rf main_arg2, rf main_v1} : Finset (DevRef τ sig)) ⊆ US by decide
theorem sV2 : (oV2 (F := F)).bufs ⊆ US := show ({rf main_v0, rf main_v2} : Finset (DevRef τ sig)) ⊆ US by decide
theorem sV3 : (oV3 (F := F)).bufs ⊆ US := show ({rf main_cst, rf main_cst_0, rf main_v3} : Finset (DevRef τ sig)) ⊆ US by decide
theorem sCst2 : (oCst2 (F := F)).bufs ⊆ US := show ({rf main_cst_2} : Finset (DevRef τ sig)) ⊆ US by decide
theorem sV4 : (oV4 (F := F)).bufs ⊆ US := show ({rf main_cst_2, rf main_v4} : Finset (DevRef τ sig)) ⊆ US by decide
theorem sV5 : (oV5 (F := F)).bufs ⊆ US := show ({rf main_v4, rf main_v5} : Finset (DevRef τ sig)) ⊆ US by decide
theorem sV6 : (oV6 (F := F)).bufs ⊆ US := show ({rf main_cst_1, rf main_v5, rf main_v6} : Finset (DevRef τ sig)) ⊆ US by decide
theorem sV7 : (oV7 (F := F)).bufs ⊆ US := show ({rf main_v3, rf main_v6, rf main_v7} : Finset (DevRef τ sig)) ⊆ US by decide
theorem sV9 : (oV9 (F := F)).bufs ⊆ US := show ({rf main_v8_1, rf main_v9} : Finset (DevRef τ sig)) ⊆ US by decide

/-! The region between its two valuations. -/

theorem val4_lp (d : Dev nD) : val4 m d (rf main_v8_0) = lpOut (arrs m) lim d := by
  unfold val4
  rw [Function.update_of_ne (show rf main_v8_0 ≠ rf main_v8_1 by decide), Function.update_self]
theorem val4_sm (d : Dev nD) : val4 m d (rf main_v8_1) = smOut (arrs m) lim d := by
  unfold val4; rw [Function.update_self]
theorem val4_ne (d : Dev nD) (b : Ref sig .tc) (h0 : b ≠ main_v8_0) (h1 : b ≠ main_v8_1) : val4 m d (rf b) = val3 m d (rf b) := by
  unfold val4
  rw [Function.update_of_ne (fun e => h1 (Proc.devRef_injective _ e)), Function.update_of_ne (fun e => h0 (Proc.devRef_injective _ e))]

/-- The region at this program's arrays. -/
def region : Pipeline.RegionSeg (pcfgs (F := F)) adm (dats (arrs m) lim adm) none defs₀ 𝒱₀ (K (F := F)).L (K (F := F)).lev 0 :=
  reg (arrs m) lim adm (fun d b => val4 m d (rf b)) (fun _ => BI.emp) (val4_lp m) (val4_sm m) (val4_ne m)

end Cert.Proof.Run

end
-- ==== Proof.Whole.lean ====
/-
  The whole launch: `@main` from the launch's resources to the arrays' final contents, and the run it gives.
-/
module

public import proofs.«01_k».proof.Proof.Run

@[expose] public section

noncomputable section

namespace Cert.Proof.Run

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dispatch Cert.Proof.Region

variable {F : FTy → Type} [FloatOps F]

local notation "𝕄" => MT nD τ sig (HIx 1) (Elt F) ℕ UU ℕ

variable (m : (ℓ : Loc nD τ sig) → Buf (Elt F) ℓ) (ρ : Dev nD → PrngReg)

/-- What @main leaves: every unscoped array at its final contents. -/
abbrev FIN (d : Dev nD) : sProp 𝕄 := held (T d) US (val5 m d)

/-- The region's call is the pipeline's call carried to the launch's labels. -/
theorem lift_call : (Prog.lift (.customCall (SparseCore.inner (Pipeline.entry 0)) ()) :
      Prog (TpuEff nD τ sig (Elt F) (SparseCore.Sig (ΛP (F := F)) 1) .tc) PUnit)
    = SparseCore.liftProg (Prog.lift (.customCall (Pipeline.entry 0) ()) : Prog (TpuEff nD τ sig (Elt F) (ΛP (F := F)) .tc) PUnit) := rfl

/-- The region's call inside @main: from the arrays before it to the arrays after it. -/
theorem region_call (κ : GSem nD τ sig → ℕ) (d : Dev nD) (Q : PUnit → sProp 𝕄) :
    iprop((K (F := F)).ctx EH (P m) κ ∗ boundary (T d) ∗ held (T d) US (val3 m d) ∗ owesLe lim d ∗ G (F := F) d
        ∗ (iprop(boundary (T d) ∗ held (T d) US (val4 m d) ∗ owesLe lim d) -∗ Q ⟨⟩))
      ⊢ wp frame (wpE ((K (F := F)).defs (D (F := F))) 𝒱 (T d) none) Set.univ
          (Prog.lift (.customCall (SparseCore.inner (Pipeline.entry 0)) ())) Q := by
  rw [lift_call]
  refine BIBase.Entails.trans ?_ ((K (F := F)).wp_liftProg (D (F := F)) 𝒱 (T d) Set.univ none (Prog.lift (.customCall (Pipeline.entry 0) ())) Q)
  refine BIBase.Entails.trans ?_ (Pipeline.RegionSeg.wp (pcfgs (F := F)) adm (dats (arrs m) lim adm) none pins_inj EP defs₀ 𝒱₀ (K (F := F)).L (K (F := F)).lev
    (region m) d none (fun _ h => nomatch h) _ Q)
  have e3 : (unscopedBufs d (arrs m d) : sProp 𝕄) = held (T d) US (val3 m d) := unscoped_held d (val3 m d)
  have e4 : (unscopedBufs d (fun b => val4 m d (rf b)) : sProp 𝕄) = held (T d) US (val4 m d) := unscoped_held d (val4 m d)
  have ep : (region m).pre d = iprop(unscopedBufs d (arrs m d) ∗ BI.emp ∗ owesLe lim d) := rfl
  have eq : (region m).post d = iprop(unscopedBufs d (fun b => val4 m d (rf b)) ∗ BI.emp ∗ owesLe lim d) := rfl
  rw [ep, eq]
  iintro ⟨#Hctx, Hb, Hh, HO, ⟨Hc, Ht⟩, Hk⟩
  ihave Hlev := (SparseCore.Cfg.ctx_levAts κ) $$ Hctx
  ihave Hc' := (Entails.of_eq (bigSep_univ_of_subsingleton (0 : Fin 1))) $$ Hc
  ihave Ht' := (Entails.of_eq (bigSep_univ_of_subsingleton (0 : Fin 1))) $$ Ht
  isplitl [Hk]
  · iintro ⟨Hb, Hpost⟩
    rw [wp_ret]; imodintro
    iapply Hk
    isplitl [Hb]; · iexact Hb
    icases Hpost with ⟨Hh, -, HO⟩
    isplitl [Hh]
    · iapply (Entails.of_eq e4); iexact Hh
    iexact HO
  isplitl [Hb]; · iexact Hb
  isplitl [Hh HO]
  · isplitl [Hh]; · iapply (Entails.of_eq e3.symm); iexact Hh
    isplitr; · iempintro
    iexact HO
  isplitl [Hlev]; · iexact Hlev
  isplitl [Hc']; · iexact Hc'
  iexact Ht'

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  have e0 : (unscopedBufs d (fun b => m ((SparseCore.T d).loc b)) : sProp 𝕄) = held (T d) US (val0 m d) := unscoped_held d (val0 m d)
  rw [e0]
  simp only [main, wp_bind, wp_pure]
  iintro ⟨#Hctx, Hst, ⟨Hb, Hh, Hts, -⟩, HG⟩
  iapply (wp_hlo_within 𝒱 (T d) none Set.univ (op := oCst) (S := US) sCst (V := val0 m d)) $$ [Hb Hh]
  · isplitl [Hb] <;> iassumption
  iintro ⟨Hb, Hh⟩
  rw [wp_ret]; imodintro
  iapply (wp_hlo_within 𝒱 (T d) none Set.univ (op := oCst0) (S := US) sCst0) $$ [Hb Hh]
  · isplitl [Hb] <;> iassumption
  iintro ⟨Hb, Hh⟩
  rw [wp_ret]; imodintro
  iapply (wp_hlo_within 𝒱 (T d) none Set.univ (op := oCst1) (S := US) sCst1) $$ [Hb Hh]
  · isplitl [Hb] <;> iassumption
  iintro ⟨Hb, Hh⟩
  rw [wp_ret]; imodintro
  -- the SparseCore call
  ihave Hh' := (show (held (T d) US ((oCst1 (F := F)).result ((oCst0 (F := F)).result ((oCst (F := F)).result (val0 m d)))) : sProp 𝕄) ⊢ _ from
    Entails.of_eq (held_before m d)) $$ Hh
  icases Hh' with ⟨H3, Hrest⟩
  iapply ((K (F := F)).wp_run (D (F := F)) 𝒱 (EH := EH) (P := P m) κ d 0) $$ [-]
  isplitr; · iexact Hctx
  isplitl [Hst]; · iexact Hst
  isplitl [H3]; · iapply (Entails.of_eq (st0_eq m d).symm); iexact H3
  iintro ⟨Hst, Hdn⟩
  ihave H3 := (Entails.of_eq (dn0_eq m d)) $$ Hdn
  ihave Hh := (Entails.of_eq (held_after m d)) $$ [H3 Hrest]
  · isplitl [H3] <;> iassumption
  -- the host operations before the region
  iapply (wp_hlo_within 𝒱 (T d) none Set.univ (op := oV1) (S := US) sV1 (V := val2 m d)) $$ [Hb Hh]
  · isplitl [Hb] <;> iassumption
  iintro ⟨Hb, Hh⟩
  rw [wp_ret]; imodintro
  iapply (wp_hlo_within 𝒱 (T d) none Set.univ (op := oV2) (S := US) sV2) $$ [Hb Hh]
  · isplitl [Hb] <;> iassumption
  iintro ⟨Hb, Hh⟩
  rw [wp_ret]; imodintro
  iapply (wp_hlo_within 𝒱 (T d) none Set.univ (op := oV3) (S := US) sV3) $$ [Hb Hh]
  · isplitl [Hb] <;> iassumption
  iintro ⟨Hb, Hh⟩
  rw [wp_ret]; imodintro
  iapply (wp_hlo_within 𝒱 (T d) none Set.univ (op := oCst2) (S := US) sCst2) $$ [Hb Hh]
  · isplitl [Hb] <;> iassumption
  iintro ⟨Hb, Hh⟩
  rw [wp_ret]; imodintro
  iapply (wp_hlo_within 𝒱 (T d) none Set.univ (op := oV4) (S := US) sV4) $$ [Hb Hh]
  · isplitl [Hb] <;> iassumption
  iintro ⟨Hb, Hh⟩
  rw [wp_ret]; imodintro
  iapply (wp_hlo_within 𝒱 (T d) none Set.univ (op := oV5) (S := US) sV5) $$ [Hb Hh]
  · isplitl [Hb] <;> iassumption
  iintro ⟨Hb, Hh⟩
  rw [wp_ret]; imodintro
  iapply (wp_hlo_within 𝒱 (T d) none Set.univ (op := oV6) (S := US) sV6) $$ [Hb Hh]
  · isplitl [Hb] <;> iassumption
  iintro ⟨Hb, Hh⟩
  rw [wp_ret]; imodintro
  iapply (wp_hlo_within 𝒱 (T d) none Set.univ (op := oV7) (S := US) sV7) $$ [Hb Hh]
  · isplitl [Hb] <;> iassumption
  iintro ⟨Hb, Hh⟩
  rw [wp_ret]; imodintro
  -- the region
  unfold SparseCore.Cfg.tcSt
  rw [(K (F := F)).Otc_end d (n := (0 : Fin 1).val + 1) (le_refl _), (K (F := F)).Otc_end d (n := 1) (le_refl _)]
  icases Hst with ⟨HO, Hst⟩
  iapply (region_call m κ d _)
  isplitr; · iexact Hctx
  isplitl [Hb]; · iexact Hb
  isplitl [Hh]; · iexact Hh
  isplitl [HO]; · iexact HO
  isplitl [HG]; · iexact HG
  iintro ⟨Hb, Hh, HO⟩
  iapply (wp_hlo_within 𝒱 (T d) none Set.univ (op := oV9) (S := US) sV9 (V := val4 m d)) $$ [Hb Hh]
  · isplitl [Hb] <;> iassumption
  iintro ⟨Hb, Hh⟩
  rw [wp_ret]; imodintro; imodintro
  isplitl [HO Hst]
  · isplitl [HO]; · iexact HO
    iexact Hst
  isplitl [Hh]; · iexact Hh
  isplitl [Hb] <;> iassumption

/-! ## The run -/

/-- The final memory holds the final contents. -/
def fq (d : Dev nD) (s' : Phys nD τ sig (Elt F)) : Prop := ∀ b ∈ (US : Finset (DevRef τ sig)), s'.mem.mem (d, b) = val5 m d b

theorem hfin (d : Dev nD) (s' : Phys nD τ sig (Elt F)) : iprop(FIN m d ∗ SI s') ⊢ (⌜fq m d s'⌝ : sProp 𝕄) := by
  unfold fq
  refine (BI.Laws.forall_intro fun b => ?_).trans BI.Laws.pure_forall.2
  refine (BI.Laws.forall_intro fun hb => ?_).trans BI.Laws.pure_forall.2
  have one : (bigSep US fun b => ((d, b) ↦{fullShare} val5 m d b : sProp 𝕄)) ⊢ (d, b) ↦{fullShare} val5 m d b := bigSep_elim hb
  unfold FIN held
  iintro ⟨Hh, HSI⟩
  ihave Hb := one $$ Hh
  ihave H := (SI_pointsTo_agree (st := s') (ℓ := (d, b)) (I := Finset.univ) (q := fullShare) (f := val5 m d b)) $$ [HSI Hb]
  · isplitl [HSI] <;> iassumption
  icases H with %h
  ipureintro; exact funext fun i => h i (Finset.mem_univ i)

def QC : PUnit × MemSt nD τ sig (Elt F) → Prop := fun r =>
  (∀ d : Dev nD, ∀ b ∈ (US : Finset (DevRef τ sig)), r.2.mem (d, b) = val5 m d b) ∧ r.2.sem = fun _ => 0

/-- The program runs, to the final contents and every semaphore at zero. -/
theorem run_main [∀ e, Nonempty (Elt F e)] (hb : InTable m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hb)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Run

end
-- ==== Proof.Ranges.lean ====
/-
  What the two preconditions say of the integer arguments: the batch entries, and in the second the timesteps as well,
  lie in their ranges.
-/
module

public import proofs.«01_k».proof.Proof.Gen.Pre_batch_in_range
public import proofs.«01_k».proof.Proof.Gen.Pre_in_range_no_tie
public import Idealize.ShloMosaic.Lib.ReduceAll

@[expose] public section

noncomputable section

namespace Cert.Proof.Ranges

open Idealize.ShloMosaic

variable {F : FTy → Type} [FloatOps F]

/-- A word between zero and a small bound, as signed numbers, is below the bound as a natural. -/
theorem word_lt (n : ℕ) (hn : n < 2 ^ 31) (v : BitVec 32)
    (h : IntOp.andi (IntOp.cmpi .sge v 0#32) (IntOp.cmpi .slt v (BitVec.ofNat 32 n)) = 1#1) : v.toNat < n := by
  obtain ⟨h0, h1⟩ := IntOp.andi_eq_one.1 h
  rw [IntOp.cmpi_sge, BitVec.toInt_eq_toNat_cond, BitVec.toInt_eq_toNat_cond] at h0
  rw [IntOp.cmpi_slt, BitVec.toInt_eq_toNat_cond, BitVec.toInt_eq_toNat_cond, BitVec.toNat_ofNat] at h1
  have := v.isLt
  have e : n % 2 ^ 32 = n := Nat.mod_eq_of_lt (by omega)
  rw [e] at h1
  simp only [BitVec.toNat_ofNat] at h0
  split_ifs at h0 h1 <;> omega

instance : Subsingleton (⟨0, ![]⟩ : Shape).Idx := ⟨fun _ _ => funext fun i => i.elim0⟩

section
open Cert.Pre_batch_in_range

/-- The first precondition: every batch entry names a timestep. -/
theorem of_batch (x0 x1 : FVec F S32768x128 .f32) (xt : IVec S32768 32) (ts : IVec S128 32) (bt : IVec S32768 32)
    (h : fn (F := F) x0 x1 xt ts bt = fun _ => 1#1) : ∀ i, (bt i).toNat < 128 := fun i =>
  word_lt 128 (by decide) _ (Host.reduce_andi_all _ _ _ _ _ (congrFun h (fun i => i.elim0)) i)

end

section
open Cert.Pre_in_range_no_tie

/-- The second precondition ends in the ranges and the ties' count, whatever the scores are. -/
theorem no_tie_tail (x0 x1 : FVec F S32768x128 .f32) (xt : IVec S32768 32) (ts : IVec S128 32) (bt : IVec S32768 32) :
    ∃ s : FVec F S32768x128 .f32, fn (F := F) x0 x1 xt ts bt = fn_part5 (F := F) ts bt s := ⟨_, rfl⟩

/-- The second precondition: every timestep names a row of coefficients, and every batch entry a timestep. -/
theorem of_no_tie (x0 x1 : FVec F S32768x128 .f32) (xt : IVec S32768 32) (ts : IVec S128 32) (bt : IVec S32768 32)
    (h : fn (F := F) x0 x1 xt ts bt = fun _ => 1#1) : (∀ i, (ts i).toNat < 50) ∧ ∀ i, (bt i).toNat < 128 := by
  obtain ⟨s, e⟩ := no_tie_tail x0 x1 xt ts bt
  rw [e] at h
  have h := congrFun h (fun i => i.elim0)
  dsimp only [fn_part5, fn_part6, andi] at h
  obtain ⟨h, -⟩ := IntOp.andi_eq_one.1 h
  obtain ⟨ht, hb⟩ := IntOp.andi_eq_one.1 h
  exact ⟨fun i => word_lt 50 (by decide) _ (Host.reduce_andi_all _ _ _ _ _ ht i),
    fun i => word_lt 128 (by decide) _ (Host.reduce_andi_all _ _ _ _ _ hb i)⟩

end

end Cert.Proof.Ranges

end
-- ==== Proof.Frames.lean ====
/-
  The frames: the kernel runs, its arguments end as they were and every semaphore counter ends at zero, at the ideal
  floats and at the machine's.
-/
module

public import proofs.«01_k».proof.Defs
public import proofs.«01_k».proof.Proof.Gen.Kernel
public import proofs.«01_k».proof.Proof.Whole
public import proofs.«01_k».proof.Proof.Ranges

@[expose] public section

noncomputable section

namespace Cert.Proof.Run

open Cert.KernelIdeal Cert.KernelIdeal.Gen
open Idealize.ShloMosaic Idealize.ShloMosaic.TcCoe Idealize.ShloMosaic.Tactic
open Idealize.SL.Sem
open Cert.Proof.Dispatch Cert.Proof.Region

variable {F : FTy → Type} [FloatOps F]

variable (m : (ℓ : Loc nD τ sig) → Buf (Elt F) ℓ)

/-- The argument arrays. -/
abbrev args : List (Ref sig .tc) := [main_arg0, main_arg1, main_arg2, main_arg3, main_arg4]

/-- Before the region an argument array is as at the launch. -/
theorem val3_arg (d : Dev nD) (b : Ref sig .tc) (hb : b ∈ args) : val3 m d (rf b) = m (d, rf b) := by
  have e2 : val2 m d (rf b) = val1 m d (rf b) := by
    unfold val2
    refine Function.update_of_ne (fun e => ?_) _ _
    have e := Proc.devRef_injective _ e
    subst e; revert hb; decide
  have e1 : val1 m d (rf b) = m (d, rf b) := by
    unfold val1
    simp only [args, List.mem_cons, List.not_mem_nil, or_false] at hb
    rcases hb with rfl | rfl | rfl | rfl | rfl <;> after_results_simp <;> rfl
  rw [← e1, ← e2]
  unfold val3
  simp only [args, List.mem_cons, List.not_mem_nil, or_false] at hb
  rcases hb with rfl | rfl | rfl | rfl | rfl <;> after_results_simp

/-- The last reshape writes its own array alone. -/
theorem val5_ne (d : Dev nD) (b : Ref sig .tc) (hb : b ≠ main_v9) : val5 m d (rf b) = val4 m d (rf b) := by
  unfold val5
  exact StableHlo.reshape_result_ne _ _ _ _ _ _ _ hb

/-- At the end an argument array is as at the launch. -/
theorem val5_arg (d : Dev nD) (b : Ref sig .tc) (hb : b ∈ args) : val5 m d (rf b) = m (d, rf b) := by
  rw [val5_ne m d b (by rintro rfl; revert hb; decide), val4_ne m d b (by rintro rfl; revert hb; decide) (by rintro rfl; revert hb; decide),
    val3_arg m d b hb]

theorem arg_mem (b : Ref sig .tc) (hb : b ∈ args) : rf b ∈ (US : Finset (DevRef τ sig)) := by
  simp only [args, List.mem_cons, List.not_mem_nil, or_false] at hb
  rcases hb with rfl | rfl | rfl | rfl | rfl <;> decide

/-- From the final contents to the arguments unchanged. -/
theorem args_of_QC {r : PUnit × MemSt nD τ sig (Elt F)} (h : QC m r) (d : Dev nD) (b : Ref sig .tc) (hb : b ∈ args) :
    r.2.mem (d, rf b) = m (d, rf b) := (h.1 d (rf b) (arg_mem b hb)).trans (val5_arg m d b hb)

/-- The frame, from the range of the batch entries. -/
theorem frame [∀ e, Nonempty (Elt F e)] (ρ : Dev nD → PrngReg) (hb : InTable m) :
    θ_run (Cert.KernelIdeal.defs (F := F)) (Cert.KernelIdeal.threads (F := F)) ⟨m, fun _ => 0, ρ⟩ (fun r =>
      (∀ d : Dev nD, r.2.mem (d, rf main_arg0) = m (d, rf main_arg0) ∧ r.2.mem (d, rf main_arg1) = m (d, rf main_arg1)
        ∧ r.2.mem (d, rf main_arg2) = m (d, rf main_arg2) ∧ r.2.mem (d, rf main_arg3) = m (d, rf main_arg3)
        ∧ r.2.mem (d, rf main_arg4) = m (d, rf main_arg4)) ∧ r.2.sem = fun _ => 0) := by
  refine (θ_run Cert.KernelIdeal.defs _ _).mono (fun r h => ⟨fun d => ?_, h.2⟩) (run_main m ρ hb)
  have a := args_of_QC m h d
  exact ⟨a _ (by decide), a _ (by decide), a _ (by decide), a _ (by decide), a _ (by decide)⟩

theorem frame_ideal : Cert.quiescent_KernelIdeal := fun m ρ hp =>
  frame m ρ fun d x => (Ranges.of_no_tie _ _ _ _ _ (hp d)).2 x

/-- The run of the program at the machine's floats, its frame as the claim words it. -/
abbrev FrameAt (m : (ℓ : Loc Cert.Kernel.nD Cert.Kernel.τ Cert.Kernel.sig) → Buf (Elt Bits) ℓ) (ρ : Dev Cert.Kernel.nD → PrngReg) : Prop :=
  θ_run (Cert.Kernel.defs (F := Bits)) (Cert.Kernel.threads (F := Bits)) ⟨m, fun _ => 0, ρ⟩ (fun r =>
    (∀ c : Dev Cert.Kernel.nD, r.2.mem (c.tc.loc Cert.Kernel.main_arg0) = m (c.tc.loc Cert.Kernel.main_arg0)
      ∧ r.2.mem (c.tc.loc Cert.Kernel.main_arg1) = m (c.tc.loc Cert.Kernel.main_arg1)
      ∧ r.2.mem (c.tc.loc Cert.Kernel.main_arg2) = m (c.tc.loc Cert.Kernel.main_arg2)
      ∧ r.2.mem (c.tc.loc Cert.Kernel.main_arg3) = m (c.tc.loc Cert.Kernel.main_arg3)
      ∧ r.2.mem (c.tc.loc Cert.Kernel.main_arg4) = m (c.tc.loc Cert.Kernel.main_arg4)) ∧ r.2.sem = fun _ => 0)

/-- The program's two printings have one text, so one run serves both. -/
theorem frame_words (m : (ℓ : Loc nD τ sig) → Buf (Elt Bits) ℓ) (ρ : Dev nD → PrngReg) (hb : InTable m) : FrameAt m ρ := by
  have h := frame (F := Bits) m ρ hb
  have ed : Cert.KernelIdeal.defs (F := Bits) = Cert.Kernel.defs (F := Bits) := by chain_rfl
  have et : Cert.KernelIdeal.threads (F := Bits) = Cert.Kernel.threads (F := Bits) := by chain_rfl
  rw [ed, et] at h
  exact h

theorem frame_bits : Cert.quiescent_Kernel := fun m ρ hp =>
  frame_words m ρ fun d x => Ranges.of_batch _ _ _ _ _ (hp d) x

theorem frame_bits_no_tie : Cert.quiescent_Kernel_pre_in_range_no_tie := fun m ρ hp =>
  frame_words m ρ fun d x => (Ranges.of_no_tie _ _ _ _ _ (hp d)).2 x

end Cert.Proof.Run

end
-- ==== Proof.RefOps.lean ====
/-
  The reference as a straight line of host operations, read off its printed text, and its run: it ends with every counter
  at zero and every buffer at what the line leaves there.
-/
module

public import proofs.«01_k».proof.Proof.Gen.ReferenceIdeal
public import Idealize.ShloMosaic.Lib.StableHlo.Run
public import Idealize.ShloMosaic.Lib.StableHlo.RunHlo
public import Idealize.ShloMosaic.Lib.Quiescent

@[expose] public section

set_option maxRecDepth 16384

noncomputable section

namespace Cert.Proof.Ref

open Cert.ReferenceIdeal
open Idealize.ShloMosaic Idealize.ShloMosaic.TcCoe Idealize.ShloMosaic.StableHlo Idealize.SL.Sem

variable {F : FTy → Type} [FloatOps F]

/-- The reference's programs and their operations. -/
abbrev Pr : Type 1 := Prog (TpuEff nD τ sig (Elt F) (Pipeline.Sig Λ₀ (Fin 0) fun p => (pcfgs (F := F) p).Adm) .tc) PUnit
abbrev Line : Type := List (HloOp τ sig (Elt F))

/-- An operation names the TensorCore's buffers only, and determines its result. -/
abbrev Plain (op : HloOp τ sig (Elt F)) : Prop := op.bufs ⊆ tcRefs τ sig ∧ op.fresh = ∅

/-- A program's line: the operations, with the proofs that the program is their sequence and that each is plain. -/
abbrev LineOf (p : Pr (F := F)) : Type := {l : Line (F := F) // IsSeq p l ∧ l.Forall Plain}

/-- The empty program, one operation alone, one operation before a program, and a program before a program. -/
def LineOf.none : LineOf (F := F) (pure ⟨⟩) := ⟨[], rfl, trivial⟩
def LineOf.last (op : HloOp τ sig (Elt F)) (h : Plain op) : LineOf (F := F) (hlo rfl op fun _ => .ret ⟨⟩) := ⟨[op], rfl, h⟩
def LineOf.step (op : HloOp τ sig (Elt F)) (h : Plain op) {q : Pr (F := F)} (r : LineOf q) :
    LineOf (F := F) ((hlo rfl op fun _ => .ret (⟨⟩ : PUnit)) >>= fun _ => q) :=
  ⟨op :: r.1, IsSeq.cons r.2.1, List.forall_iff_forall_mem.2 fun o ho => by
    rcases List.mem_cons.1 ho with rfl | ho
    · exact h
    · exact List.forall_iff_forall_mem.1 r.2.2 o ho⟩
def LineOf.join {p q : Pr (F := F)} (l : LineOf p) (r : LineOf q) : LineOf (F := F) (p >>= fun _ => q) :=
  ⟨l.1 ++ r.1, by have hl := l.2.1; have hr := r.2.1; unfold IsSeq at *; rw [seq_append, ← hl, ← hr],
    List.forall_iff_forall_mem.2 fun o ho => (List.mem_append.1 ho).elim (List.forall_iff_forall_mem.1 l.2.2 o)
      (List.forall_iff_forall_mem.1 r.2.2 o)⟩

/-! ## The line of each function, then of the two halves -/

def whereLine (a : TRef sig ⟨S128, .i1⟩) (b : TRef sig ⟨S128, .i32⟩) (c : TRef sig ⟨S128, .i32⟩) (φ : fn_where.Bufs) :
    LineOf (F := F) (fn_where.body a b c φ) := by
  delta fn_where.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def takeLine (a : TRef sig ⟨S50, .f32⟩) (b : TRef sig ⟨S128, .i32⟩) (φ : fn_take.Bufs) :
    LineOf (F := F) (fn_take.body a b φ) := by
  delta fn_take.body
  repeat (first
    | exact LineOf.none | refine LineOf.step _ ?_ ?_ | refine LineOf.join (whereLine ..) ?_
    | (refine And.intro ?_ rfl
       with_reducible first
         | exact nullary_bufs_sub .. | exact unary_bufs_sub .. | exact binary_bufs_sub .. | exact ternary_bufs_sub ..
         | exact quaternary_bufs_sub ..))

def where1Line (a : TRef sig ⟨S32768, .i1⟩) (b : TRef sig ⟨S32768, .i32⟩) (c : TRef sig ⟨S32768, .i32⟩) (φ : fn_where_1.Bufs) :
    LineOf (F := F) (fn_where_1.body a b c φ) := by
  delta fn_where_1.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def take0Line (a : TRef sig ⟨S128, .f32⟩) (b : TRef sig ⟨S32768, .i32⟩) (φ : fn_take_0.Bufs) :
    LineOf (F := F) (fn_take_0.body a b φ) := by
  delta fn_take_0.body
  repeat (first
    | exact LineOf.none | refine LineOf.step _ ?_ ?_ | refine LineOf.join (where1Line ..) ?_
    | (refine And.intro ?_ rfl
       with_reducible first
         | exact nullary_bufs_sub .. | exact unary_bufs_sub .. | exact binary_bufs_sub .. | exact ternary_bufs_sub ..
         | exact quaternary_bufs_sub ..))

def oneHotLine (a : TRef sig ⟨S32768, .i32⟩) (φ : fn_one_hot.Bufs) :
    LineOf (F := F) (fn_one_hot.body a φ) := by
  delta fn_one_hot.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def clipLine (a : TRef sig ⟨S32768x128, .f32⟩) (b : TRef sig ⟨S_, .f32⟩) (φ : fn_clip.Bufs) :
    LineOf (F := F) (fn_clip.body a b φ) := by
  delta fn_clip.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def where2Line (a : TRef sig ⟨S32768x1, .i1⟩) (b : TRef sig ⟨S32768x1, .f32⟩) (c : TRef sig ⟨S_, .f32⟩) (φ : fn_where_2.Bufs) :
    LineOf (F := F) (fn_where_2.body a b c φ) := by
  delta fn_where_2.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def where3Line (a : TRef sig ⟨S32768x1, .i1⟩) (b : TRef sig ⟨S32768x128, .f32⟩) (c : TRef sig ⟨S32768x128, .f32⟩) (φ : fn_where_3.Bufs) :
    LineOf (F := F) (fn_where_3.body a b c φ) := by
  delta fn_where_3.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def argmaxLine (a : TRef sig ⟨S32768x128, .f32⟩) (φ : fn_argmax.Bufs) :
    LineOf (F := F) (fn_argmax.body a φ) := by
  delta fn_argmax.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def argmax4Line (a : TRef sig ⟨S32768x128, .f32⟩) (φ : fn_argmax_4.Bufs) :
    LineOf (F := F) (fn_argmax_4.body a φ) := by
  delta fn_argmax_4.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

def where5Line (a : TRef sig ⟨S32768, .i1⟩) (b : TRef sig ⟨S32768, .i32⟩) (c : TRef sig ⟨S32768, .i32⟩) (φ : fn_where_5.Bufs) :
    LineOf (F := F) (fn_where_5.body a b c φ) := by
  delta fn_where_5.body
  repeat (first
    | exact LineOf.none | refine LineOf.step _ ?_ ?_
    | (refine And.intro ?_ rfl
       with_reducible first
         | exact nullary_bufs_sub .. | exact unary_bufs_sub .. | exact binary_bufs_sub .. | exact ternary_bufs_sub ..
         | exact quaternary_bufs_sub ..))

set_option maxHeartbeats 4000000 in
def half0 (d : Dev nD) : LineOf (F := F) (main_part0 d) := by
  delta main_part0
  beta_reduce
  repeat (first
    | refine LineOf.step _ ?_ ?_ | refine LineOf.join (takeLine ..) ?_ | refine LineOf.join (take0Line ..) ?_ | refine LineOf.join (oneHotLine ..) ?_ | refine LineOf.join (clipLine ..) ?_ | exact LineOf.none | refine LineOf.last _ ?_
    | (refine And.intro ?_ rfl
       with_reducible first
         | exact nullary_bufs_sub .. | exact unary_bufs_sub .. | exact binary_bufs_sub .. | exact ternary_bufs_sub ..
         | exact quaternary_bufs_sub ..))

set_option maxHeartbeats 4000000 in
def half1 (d : Dev nD) : LineOf (F := F) (main_part1 d) := by
  delta main_part1
  beta_reduce
  repeat (first
    | refine LineOf.step _ ?_ ?_ | refine LineOf.join (where2Line ..) ?_ | refine LineOf.join (where3Line ..) ?_ | refine LineOf.join (argmaxLine ..) ?_ | refine LineOf.join (argmax4Line ..) ?_ | refine LineOf.join (where5Line ..) ?_ | exact LineOf.none | refine LineOf.last _ ?_
    | (refine And.intro ?_ rfl
       with_reducible first
         | exact nullary_bufs_sub .. | exact unary_bufs_sub .. | exact binary_bufs_sub .. | exact ternary_bufs_sub ..
         | exact quaternary_bufs_sub ..))

/-- The whole line. -/
def ops : Line (F := F) := (half0 0).1 ++ (half1 0).1

theorem main_eq (d : Dev nD) : IsSeq (main (F := F) d) ops := (LineOf.join (half0 0) (half1 0)).2.1

/-- Every operation of the line is plain. -/
theorem ops_plain : (ops (F := F)).Forall Plain := (LineOf.join (half0 0) (half1 0)).2.2

theorem scoped_none : (Finset.univ.filter fun b : Ref sig .tc => b.isScoped) = ∅ := by decide +kernel
theorem sems_none : (Finset.univ.filter fun sm : SemLoc sig => sm.isScoped .tc) = ∅ := by decide +kernel

theorem length_ops : (ops (F := F)).length = 280 := by rfl

end Cert.Proof.Ref

end
-- ==== Proof.RefRun.lean ====
/-
  The reference's run: it ends with every counter at zero, every buffer at what the line leaves there, and the arguments
  as they were.
-/
module

public import proofs.«01_k».proof.Defs
public import proofs.«01_k».proof.Proof.RefOps
public import proofs.«01_k».proof.Proof.Gen.Pre_in_range_no_tie
public import Idealize.ShloMosaic.Lib.StableHlo.RunRead

@[expose] public section

set_option maxRecDepth 16384

noncomputable section

namespace Cert.Proof.Ref

open Cert.ReferenceIdeal
open Idealize.ShloMosaic Idealize.ShloMosaic.TcCoe Idealize.ShloMosaic.StableHlo Idealize.SL.Sem

variable {F : FTy → Type} [FloatOps F]

theorem run_ops (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = after ops (launchContents m d) (Proc.devRef .tc b) :=
  run_hlo defs main main_eq scoped_none sems_none
    (List.forall_iff_forall_mem.2 fun op h => (List.forall_iff_forall_mem.1 ops_plain op h).1)
    (fun op h => (List.forall_iff_forall_mem.1 ops_plain op h).2) m ρ

/-! ## The arguments stay -/

theorem keep0 (V : Valuation τ sig (Elt F)) : after ops V (Proc.devRef .tc main_arg0) = V (Proc.devRef .tc main_arg0) := by after_reads_simp
theorem keep1 (V : Valuation τ sig (Elt F)) : after ops V (Proc.devRef .tc main_arg1) = V (Proc.devRef .tc main_arg1) := by after_reads_simp
theorem keep2 (V : Valuation τ sig (Elt F)) : after ops V (Proc.devRef .tc main_arg2) = V (Proc.devRef .tc main_arg2) := by after_reads_simp
theorem keep3 (V : Valuation τ sig (Elt F)) : after ops V (Proc.devRef .tc main_arg3) = V (Proc.devRef .tc main_arg3) := by after_reads_simp
theorem keep4 (V : Valuation τ sig (Elt F)) : after ops V (Proc.devRef .tc main_arg4) = V (Proc.devRef .tc main_arg4) := by after_reads_simp

/-- The run with its two results, its arguments and its counters. -/
theorem run_main (m : (ℓ : Loc nD τ sig) → Buf (Elt F) ℓ) (ρ : Dev nD → PrngReg) :
    θ_run (defs (F := F)) (onTc (τ := τ) main) ⟨m, fun _ => 0, ρ⟩ fun r =>
      (∀ (d : Dev nD), r.2.mem (d.tc.loc main_v67) = after ops (launchContents m d) (Proc.devRef .tc main_v67)
        ∧ r.2.mem (d.tc.loc main_v79) = after ops (launchContents m d) (Proc.devRef .tc main_v79)
        ∧ r.2.mem (d.tc.loc main_arg0) = m (d.tc.loc main_arg0) ∧ r.2.mem (d.tc.loc main_arg1) = m (d.tc.loc main_arg1)
        ∧ r.2.mem (d.tc.loc main_arg2) = m (d.tc.loc main_arg2) ∧ r.2.mem (d.tc.loc main_arg3) = m (d.tc.loc main_arg3)
        ∧ r.2.mem (d.tc.loc main_arg4) = m (d.tc.loc main_arg4)) ∧ r.2.sem = fun _ => 0 :=
  θ_run_mono (run_ops m ρ) fun r h =>
    ⟨fun d => ⟨h d _, h d _, (h d _).trans (keep0 _), (h d _).trans (keep1 _), (h d _).trans (keep2 _),
      (h d _).trans (keep3 _), (h d _).trans (keep4 _)⟩, sem_eq_zero_of_no_sems rfl _⟩

theorem frame_ref : Cert.quiescent_ReferenceIdeal := fun m g _ =>
  θ_run_mono (run_main m g) fun _ h => ⟨fun c => (h.1 c).2.2, h.2⟩

theorem frame_ref_no_tie : Cert.quiescent_ReferenceIdeal_pre_in_range_no_tie := fun m g _ =>
  θ_run_mono (run_main m g) fun _ h => ⟨fun c => (h.1 c).2.2, h.2⟩

end Cert.Proof.Ref

end
-- ==== Proof.Scalar.lean ====
/-
  The mathematics of one row: the extended reals its log-probabilities and its choice are made of, and what holds of
  them whichever of the two programs computes them.
-/
module

public import Idealize.ShloMosaic.PureOps.Ideal
public import Idealize.ShloMosaic.PureOps.Ideal.Laws
public import Idealize.ShloMosaic.Lib.IdealHost

@[expose] public section

noncomputable section

namespace Cert.Proof.Scalar

open Idealize.ShloMosaic
open scoped BigOperators

/-- The logarithm of the sum of two exponentials, about their maximum. -/
def lae (a b : EReal) : EReal := max a b + Ideal.log (Ideal.exp (a - max a b) + Ideal.exp (b - max a b))

theorem log_zero : Ideal.log 0 = ⊥ := by rw [← EReal.coe_zero, Ideal.log_coe]; simp
theorem log_one : Ideal.log 1 = 0 := by
  rw [← EReal.coe_one, Ideal.log_coe, if_neg (by norm_num), Real.log_one, EReal.coe_zero]

theorem log_ne_top {x : EReal} (h : x ≠ ⊤) : Ideal.log x ≠ ⊤ := by
  induction x using EReal.rec with
  | bot => simp
  | top => exact absurd rfl h
  | coe r => rw [Ideal.log_coe]; split <;> simp

theorem exp_ne_top {x : EReal} (h : x ≠ ⊤) : Ideal.exp x ≠ ⊤ := by
  induction x using EReal.rec with
  | bot => simp
  | top => exact absurd rfl h
  | coe r => rw [Ideal.exp_coe]; exact EReal.coe_ne_top _

/-- It is never the top: where an argument is, the logarithm beside it is the bottom. -/
theorem lae_ne_top (a b : EReal) : lae a b ≠ ⊤ := by
  unfold lae
  generalize hM : max a b = M
  have ha : a ≤ M := hM ▸ le_max_left _ _
  have hb : b ≤ M := hM ▸ le_max_right _ _
  induction M using EReal.rec with
  | bot => simp
  | top => rw [EReal.sub_top, EReal.sub_top, Ideal.exp_bot, add_zero, log_zero, EReal.add_bot]; simp
  | coe r =>
    have key : ∀ c : EReal, c ≤ (r : EReal) → Ideal.exp (c - (r : EReal)) ≠ ⊤ := fun c hc => exp_ne_top (by
      have hc' : c ≠ ⊤ := fun e => by simp [e] at hc
      rw [sub_eq_add_neg, ← EReal.coe_neg]
      exact (EReal.add_lt_top hc' (EReal.coe_ne_top _)).ne)
    exact (EReal.add_lt_top (EReal.coe_ne_top _) (log_ne_top (EReal.add_lt_top (key a ha) (key b hb)).ne)).ne

/-! ## A row's normalised values -/

/-- A row's maximum. -/
def rowMax (s : Fin 128 → EReal) : EReal := Finset.univ.fold max ⊥ s

/-- A row's value less the logarithm of the row's exponentials' sum, about the row's maximum. -/
def rowLP (s : Fin 128 → EReal) (l : Fin 128) : EReal :=
  s l - (rowMax s + Ideal.log (∑ k, Ideal.exp (s k - rowMax s)))

/-- A row's maximum, zero where it is infinite. -/
def guard (s : Fin 128 → EReal) : EReal := if max (rowMax s) (-rowMax s) < ⊤ then rowMax s else 0

theorem le_rowMax (s : Fin 128 → EReal) (l : Fin 128) : s l ≤ rowMax s :=
  ((Finset.fold_max_le _).1 le_rfl).2 l (Finset.mem_univ l)

/-- The guard changes nothing on a row without a top: an infinite maximum is then the bottom, and so is each value. -/
theorem guarded_eq (s : Fin 128 → EReal) (hs : ∀ k, s k ≠ ⊤) (l : Fin 128) :
    s l - (Ideal.log (0 + ∑ k, Ideal.exp (s k - guard s)) + guard s) = rowLP s l := by
  unfold rowLP
  by_cases hb : rowMax s = ⊥
  · have : s l = ⊥ := le_bot_iff.1 (hb ▸ le_rowMax s l)
    rw [this, sub_eq_add_neg, sub_eq_add_neg, EReal.bot_add, EReal.bot_add]
  · have ht : rowMax s < ⊤ := (Finset.fold_max_lt _).2 ⟨bot_lt_top, fun k _ => lt_top_iff_ne_top.2 (hs k)⟩
    have hn : -rowMax s < ⊤ := by
      rw [lt_top_iff_ne_top]; intro e; exact hb (by rw [← neg_neg (rowMax s), e, EReal.neg_top])
    have hg : guard s = rowMax s := if_pos (max_lt ht hn)
    rw [hg, zero_add, add_comm]

/-! ## The noise -/

/-- The pattern of the small positive constant, and the initial log-probability's. -/
def EPS : EReal := Ideal.ofBits .f32 0x0DA24260#32
def INIT : EReal := Ideal.ofBits .f32 0xC09B43D5#32

/-- The noise of a uniform draw. -/
def gum (u : EReal) : EReal := -Ideal.log (-Ideal.log (u + EPS) + EPS)

theorem EPS_eq : EPS = ((((10633824 : ℕ) : ℝ) * (2 : ℝ) ^ (-123 : ℤ) : ℝ) : EReal) := by
  unfold EPS; simp [Ideal.ofBits, Ideal.ieee]

theorem EPS_nonneg : 0 ≤ EPS := by
  rw [EPS_eq]; exact EReal.coe_nonneg.2 (by positivity)

theorem EPS_le_one : EPS ≤ 1 := by
  rw [EPS_eq, ← EReal.coe_one]; exact EReal.coe_le_coe_iff.2 (by norm_num)

/-- The logarithm of a bit clipped from below by the small constant. -/
theorem log_clip (p : Prop) [Decidable p] : Ideal.log (max EPS (if p then 1 else 0)) = if p then 0 else Ideal.log EPS := by
  split
  · rw [max_eq_right EPS_le_one, log_one]
  · rw [max_eq_left EPS_nonneg]

/-! ## A row of the two results, from its coefficients -/

/-- The row's sum of terms, of the coefficients: left where the lane is the class, left elsewhere, and the right's two. -/
def rowSum (own other c d : EReal) (cls : ℕ) (x : Fin 128 → EReal) (l : Fin 128) : EReal :=
  (if cls = l.val then own else other) + lae (c + x l) d

/-- The first result's row. -/
def outLP (z : Prop) [Decidable z] (x s : Fin 128 → EReal) (l : Fin 128) : EReal := if z then x l else rowLP s l

/-- The values whose first greatest one is the second result. -/
def scores (z : Prop) [Decidable z] (x u s : Fin 128 → EReal) (l : Fin 128) : EReal :=
  if z then x l else gum (u l) + rowLP s l

theorem add_ne_top {a b : EReal} (ha : a ≠ ⊤) (hb : b ≠ ⊤) : a + b ≠ ⊤ := (EReal.add_lt_top ha hb).ne

end Cert.Proof.Scalar

end
-- ==== Proof.First.lean ====
/-
  The first greatest value of a row of 128: what the kernel's index reduction and the reference's fold over pairs both give.
-/
module

public import proofs.«01_k».proof.Proof.Gen.Pre_in_range_no_tie
public import Idealize.ShloMosaic.PureOps.Ideal
public import Idealize.ShloMosaic.PureOps.Ideal.Laws
public import Idealize.ShloMosaic.Lib.IdealHost
public import Idealize.ShloMosaic.Lib.WordCmp

@[expose] public section

noncomputable section

namespace Cert.Proof.First

open Idealize.ShloMosaic

/-- `n` is the first place of the greatest value. -/
def IsFirst (f : Fin 128 → EReal) (n : Fin 128) : Prop := (∀ k, f k ≤ f n) ∧ ∀ k, k < n → f k < f n

theorem IsFirst.unique {f : Fin 128 → EReal} {n n' : Fin 128} (h : IsFirst f n) (h' : IsFirst f n') : n = n' := by
  rcases lt_trichotomy n n' with hl | he | hl
  · exact absurd (h'.2 n hl) (not_lt.2 (h.1 n'))
  · exact he
  · exact absurd (h.2 n' hl) (not_lt.2 (h'.1 n))

theorem exists_first (f : Fin 128 → EReal) : ∃ n, IsFirst f n := by
  classical
  obtain ⟨m, -, hm⟩ := Finset.exists_max_image Finset.univ f ⟨0, Finset.mem_univ _⟩
  have hne : (Finset.univ.filter fun k => f k = f m).Nonempty := ⟨m, by simp⟩
  refine ⟨(Finset.univ.filter fun k => f k = f m).min' hne, ?_⟩
  have hin := Finset.min'_mem _ hne
  have he : f ((Finset.univ.filter fun k => f k = f m).min' hne) = f m := (Finset.mem_filter.1 hin).2
  refine ⟨fun k => (hm k (Finset.mem_univ k)).trans_eq he.symm, fun k hk => ?_⟩
  refine lt_of_le_of_ne ((hm k (Finset.mem_univ k)).trans_eq he.symm) fun e => ?_
  exact absurd (Finset.min'_le _ k (Finset.mem_filter.2 ⟨Finset.mem_univ _, e.trans he⟩)) (not_le.2 hk)

/-- Membership in a filtered set, whichever way its condition is decided. -/
theorem mem_kept {α : Type} (A : Finset α) (p : α → Prop) (dec : DecidablePred p) (a : α) :
    a ∈ @Finset.filter α p dec A ↔ a ∈ A ∧ p a := Finset.mem_filter

section
variable {R : ℕ}

/-- A row's index, and its entry on a lane. -/
abbrev Rows (R : ℕ) : Shape := ⟨1, ![R]⟩
abbrev Grid (R : ℕ) : Shape := ⟨2, ![R, 128]⟩

theorem drop_at (h : (Grid R).Reduces [1] (Rows R)) (j : (Rows R).Idx) (k : Fin 128) : h.drop (h.lift j k) = j := h.drop_lift j k
theorem at_val (h : (Grid R).Reduces [1] (Rows R)) (j : (Rows R).Idx) (k : Fin 128) : (h.lift j k 1).val = k.val := rfl
theorem at_of (h : (Grid R).Reduces [1] (Rows R)) (j : (Rows R).Idx) (i : (Grid R).Idx) (hi : h.drop i = j) : h.lift j (i 1) = i := by
  subst hi; exact h.lift_drop i

/-- The index reduction answers the first place of the row's greatest value. -/
theorem reduceIndex_first (h : (Grid R).Reduces [1] (Rows R)) (x : (Grid R).Idx → EReal) (j : (Rows R).Idx) (n : Fin 128)
    (hn : IsFirst (fun k : Fin 128 => x (h.lift j k)) n) :
    Ideal.reduceIndex .argMax 1 h x j = BitVec.ofNat 32 n.val := by
  classical
  unfold Ideal.reduceIndex
  dsimp only
  have hmem : ∀ i : (Grid R).Idx, h.drop i = j → i = h.lift j (i 1) := fun i hi => (at_of h j i hi).symm
  have hl1 := at_val h j
  refine congrArg (BitVec.ofNat 32) ?_
  generalize hE : (Finset.image (fun i : (Grid R).Idx => (i 1).val) _) = E
  have hin : n.val ∈ E := by
    rw [← hE]
    refine Finset.mem_image.2 ⟨h.lift j n, ?_, hl1 n⟩
    refine (mem_kept _ _ _ _).2 ⟨Finset.mem_filter.2 ⟨Finset.mem_univ _, drop_at h j n⟩, ?_⟩
    intro i' hi'
    rw [if_pos rfl, not_lt, hmem i' (Finset.mem_filter.1 hi').2]
    exact hn.1 (i' 1)
  obtain ⟨a, ha⟩ := Finset.min_of_mem hin
  rw [ha]
  show a = n.val
  have hle : a ≤ n.val := Finset.min_le_of_eq hin ha
  have haE : a ∈ E := Finset.mem_of_min ha
  rw [← hE] at haE
  obtain ⟨i, hi, rfl⟩ := Finset.mem_image.1 haE
  obtain ⟨hif, hmax⟩ := (mem_kept _ _ _ _).1 hi
  have hij := (Finset.mem_filter.1 hif).2
  by_contra hne
  have hlt : i 1 < n := Fin.lt_def.2 (by have : (i 1).val ≤ n.val := hle; omega)
  have h1 := hn.2 (i 1) hlt
  have h2 := hmax (h.lift j n) (Finset.mem_filter.2 ⟨Finset.mem_univ _, drop_at h j n⟩)
  rw [if_pos rfl, not_lt] at h2
  rw [hmem i hij] at h2
  exact absurd h1 (not_lt.2 h2)

/-- A row's entry on a lane, by its two coordinates. -/
theorem at_eq (h : (Grid R).Reduces [1] (Rows R)) (r : Fin R) (k : Fin 128) :
    h.lift (ValueIdx.ix1 r) k = ValueIdx.ix2 r k := by
  funext a
  match a with
  | ⟨0, _⟩ => rfl
  | ⟨1, _⟩ => rfl

/-! ## The fold over pairs -/

/-- One pair is no better than another: less, or as great and not earlier. -/
def Below (p q : EReal × BitVec 32) : Prop := p.1 < q.1 ∨ p.1 = q.1 ∧ q.2.toNat ≤ p.2.toNat

theorem Below.refl (p : EReal × BitVec 32) : Below p p := Or.inr ⟨rfl, le_rfl⟩
theorem Below.trans {p q r : EReal × BitVec 32} (h : Below p q) (h' : Below q r) : Below p r := by
  rcases h with h | ⟨e, h⟩ <;> rcases h' with h' | ⟨e', h'⟩
  · exact Or.inl (h.trans h')
  · exact Or.inl (e' ▸ h)
  · exact Or.inl (e ▸ h')
  · exact Or.inr ⟨e.trans e', h'.trans h⟩

abbrev red : EReal × BitVec 32 → EReal × BitVec 32 → EReal × BitVec 32 :=
  Cert.Pre_in_range_no_tie.reducer_argmax_f32_i32 (F := Ideal)

/-- The fold's body keeps one of its two pairs, and neither is better than it. -/
theorem red_spec (p q : EReal × BitVec 32) (hp : p.2.toNat < 128) (hq : q.2.toNat < 128) :
    (red p q = p ∨ red p q = q) ∧ Below p (red p q) ∧ Below q (red p q) := by
  obtain ⟨a, i⟩ := p
  obtain ⟨b, k⟩ := q
  have hs : IntOp.cmpi .slt i k = BitVec.ofBool (decide (i.toNat < k.toNat)) :=
    WordCmp.cmpi_slt_of_lt (lt_trans hp (by norm_num)) (lt_trans hq (by norm_num))
  unfold red Cert.Pre_in_range_no_tie.reducer_argmax_f32_i32
  simp only [Ideal.cmpf_def, Ideal.cmp, hs]
  rcases lt_trichotomy a b with h | h | h
  · have h1 : ¬ b < a := not_lt.2 h.le
    have h2 : ¬ a = b := h.ne
    simp [Scalar.select, IntOp.ori, IntOp.andi, h1, h2, Below, h]
  · subst h
    by_cases hk : i.toNat < k.toNat
    · simp [Scalar.select, IntOp.ori, IntOp.andi, hk, Below, hk.le]
    · simp [Scalar.select, IntOp.ori, IntOp.andi, hk, Below, not_lt.1 hk]
  · have h2 : ¬ a = b := h.ne'
    simp [Scalar.select, IntOp.ori, IntOp.andi, h, h2, Below]

/-- So the fold keeps one of its pairs, and none is better than it. -/
theorem fold_spec (L : List (EReal × BitVec 32)) (p : EReal × BitVec 32) (hp : p.2.toNat < 128) (hL : ∀ q ∈ L, q.2.toNat < 128) :
    (L.foldl red p ∈ p :: L) ∧ ∀ q ∈ p :: L, Below q (L.foldl red p) := by
  induction L generalizing p with
  | nil => exact ⟨by simp, fun q hq => by rw [List.mem_singleton.1 hq]; exact Below.refl p⟩
  | cons q L ih =>
    obtain ⟨he, hpb, hqb⟩ := red_spec p q hp (hL q (by simp))
    have hr : (red p q).2.toNat < 128 := by rcases he with e | e <;> rw [e]; exacts [hp, hL q (by simp)]
    obtain ⟨h1, h2⟩ := ih (red p q) hr fun s hs => hL s (List.mem_cons_of_mem _ hs)
    have h3 := h2 (red p q) (by simp)
    rw [List.foldl_cons]
    refine ⟨?_, fun s hs => ?_⟩
    · rcases List.mem_cons.1 h1 with e | e
      · rcases he with e' | e' <;> rw [e, e'] <;> simp
      · exact List.mem_cons_of_mem _ (List.mem_cons_of_mem _ e)
    · rcases List.mem_cons.1 hs with rfl | hs
      · exact hpb.trans h3
      · rcases List.mem_cons.1 hs with rfl | hs
        · exact hqb.trans h3
        · exact h2 s (List.mem_cons_of_mem _ hs)

/-- The reference's arg-max answers the first place of the row's greatest value. -/
theorem argReduce_first (h : (Grid R).Reduces [1] (Rows R)) (h' : (Grid R).ReducesTo [1] (Rows R))
    (hu : 0 < (⟨0, ![]⟩ : Shape).numel) (x : (Grid R).Idx → EReal) (y : (Grid R).Idx → BitVec 32)
    (hy : ∀ i, y i = BitVec.ofNat 32 (i 1).val) (u : (⟨0, ![]⟩ : Shape).Idx → EReal) (v : (⟨0, ![]⟩ : Shape).Idx → BitVec 32)
    (hu0 : ∀ i, u i = ⊥) (hv0 : ∀ i, v i = 0#32) (j : (Rows R).Idx) (n : Fin 128)
    (hn : IsFirst (fun k : Fin 128 => x (h.lift j k)) n) :
    (Host.argReduce (F := Ideal) (φ := .f32) red x y u v h' hu j).2 = BitVec.ofNat 32 n.val := by
  rw [Ideal.argReduce_eq_reduce2, Host.reduce2_eq_foldl_fiber, hu0, hv0]
  have hl1 := at_val h j
  have hmem : ∀ q, q ∈ Host.argReduceFiber x y h' j ↔ ∃ k : Fin 128, q = (x (h.lift j k), BitVec.ofNat 32 k.val) := by
    intro q
    unfold Host.argReduceFiber
    simp only [List.mem_map, List.mem_filter, List.mem_finRange, true_and, decide_eq_true_eq]
    rw [Shape.ReducesTo.drop_eq_drop h' h]
    constructor
    · rintro ⟨p, hp, rfl⟩
      refine ⟨(Grid R).rowMajor.symm p 1, ?_⟩
      rw [hy, at_of h j _ hp]
    · rintro ⟨k, rfl⟩
      exact ⟨(Grid R).rowMajor (h.lift j k), by rw [Equiv.symm_apply_apply]; exact drop_at h j k,
        by rw [Equiv.symm_apply_apply, hy]; rfl⟩
  have hw : ∀ k : Fin 128, (BitVec.ofNat 32 k.val).toNat = k.val := fun k => by
    rw [BitVec.toNat_ofNat]; exact Nat.mod_eq_of_lt (lt_trans k.isLt (by norm_num))
  obtain ⟨h1, h2⟩ := fold_spec (Host.argReduceFiber x y h' j) (⊥, 0#32) (by decide) fun q hq => by
    obtain ⟨k, rfl⟩ := (hmem q).1 hq
    show (BitVec.ofNat 32 k.val).toNat < 128
    rw [hw]; exact k.isLt
  generalize (Host.argReduceFiber x y h' j).foldl red (⊥, 0#32) = r at h1 h2 ⊢
  have hbest := h2 _ (List.mem_cons_of_mem _ ((hmem _).2 ⟨n, rfl⟩))
  rcases List.mem_cons.1 h1 with rfl | h1
  · have hz : n.val = 0 := by
      by_contra hne
      have h0 := hn.2 0 (Fin.lt_def.2 (Nat.pos_of_ne_zero hne))
      rcases hbest with hb | ⟨hb, -⟩
      · exact absurd hb not_lt_bot
      · have hb' : x (h.lift j n) = ⊥ := hb
        simp only [hb'] at h0
        exact absurd h0 not_lt_bot
    rw [hz]
  · obtain ⟨k, rfl⟩ := (hmem _).1 h1
    have hk : k = n := by
      rcases hbest with hb | ⟨hb, hi⟩
      · exact absurd hb (not_lt.2 (hn.1 k))
      · have hb' : x (h.lift j n) = x (h.lift j k) := hb
        have hi' : (BitVec.ofNat 32 k.val).toNat ≤ (BitVec.ofNat 32 n.val).toNat := hi
        rw [hw, hw] at hi'
        by_contra hne
        have := hn.2 k (Fin.lt_def.2 (lt_of_le_of_ne hi' fun e => hne (Fin.ext e)))
        simp only [hb'] at this
        exact absurd this (lt_irrefl _)
    rw [hk]

end

end Cert.Proof.First

end
-- ==== Proof.BlockAt.lean ====
/-
  The TensorCore kernel's two output blocks, element by element, over the extended reals.
-/
module

public import proofs.«01_k».proof.Proof.Block
public import proofs.«01_k».proof.Proof.Scalar
public import proofs.«01_k».proof.Proof.First
public import Idealize.ShloMosaic.Lib.Routing.OpsSearch
public import Idealize.ShloMosaic.Lib.ValueLayoutCasts
public import Idealize.ShloMosaic.Lib.MatmulPlain
public import Idealize.ShloMosaic.Lib.Pipeline.ValueKit

@[expose] public section

set_option maxRecDepth 16384

noncomputable section

namespace Cert.Proof.BlockAt

open Cert.KernelIdeal Cert.KernelIdeal.Gen
open Idealize.ShloMosaic hiding ix1 ix2
open Idealize.ShloMosaic.ValueIdx
open Cert.Proof.First (IsFirst)
open Cert.Proof.Block (lpBlk smBlk)
open scoped BigOperators

/-! ## One operation at an element -/

theorem addA {s : Shape} (a b : FVec Ideal s .f32) (i : s.Idx) : addf a b i = a i + b i := rfl
theorem subA {s : Shape} (a b : FVec Ideal s .f32) (i : s.Idx) : subf a b i = a i - b i := rfl
theorem maxA {s : Shape} (a b : FVec Ideal s .f32) (i : s.Idx) : maximumf a b i = max (a i) (b i) := rfl
theorem expA {s : Shape} (a : FVec Ideal s .f32) (i : s.Idx) : exp a i = Ideal.exp (a i) := rfl
theorem logA {s : Shape} (a : FVec Ideal s .f32) (i : s.Idx) : log a i = Ideal.log (a i) := rfl
theorem selA {s : Shape} {α : Type} (c : IVec s 1) (a b : s.Idx → α) (i : s.Idx) : select c a b i = Scalar.select (c i) (a i) (b i) := rfl
theorem bcA {s : Shape} {α : Type} (c : α) (i : s.Idx) : broadcast s c i = c := rfl
theorem bitsA (w : BitVec 32) : Scalar.ofBits (F := Ideal) .f32 w = Ideal.ofBits .f32 w := rfl

/-- A column over the lanes. -/
theorem wideA {α : Type} {R C : ℕ} (v : (⟨2, ![R, 1]⟩ : Shape).Idx → α) (h : (⟨2, ![R, 1]⟩ : Shape).Broadcasts ⟨2, ![R, C]⟩) (r : Fin R) (l : Fin C) :
    broadcastTo ⟨2, ![R, C]⟩ v h (ix2 r l) = v (ix2 r 0) := by
  refine broadcastTo_apply v h _ _ fun a => ?_
  match a with
  | ⟨0, _⟩ =>
    show r.val = if R = 1 then 0 else r.val
    have := r.isLt
    split <;> omega
  | ⟨1, _⟩ => rfl

/-- A row down the rows. -/
theorem tallA {α : Type} {R C : ℕ} (v : (⟨2, ![1, C]⟩ : Shape).Idx → α) (h : (⟨2, ![1, C]⟩ : Shape).Broadcasts ⟨2, ![R, C]⟩) (r : Fin R) (l : Fin C) :
    broadcastTo ⟨2, ![R, C]⟩ v h (ix2 r l) = v (ix2 0 l) := by
  refine broadcastTo_apply v h _ _ fun a => ?_
  match a with
  | ⟨0, _⟩ => rfl
  | ⟨1, _⟩ =>
    show l.val = if C = 1 then 0 else l.val
    have := l.isLt
    split <;> omega

/-- A column cut out of an array. -/
theorem cutA {α : Type} {R C D : ℕ} (o : ℕ) (x : (⟨2, ![R, C]⟩ : Shape).Idx → α) (h : (⟨2, ![R, C]⟩ : Shape).Slices ![0, o] ⟨2, ![R, D]⟩)
    (r : Fin R) (l : Fin D) (k : Fin C) (hk : k.val = o + l.val) :
    extractStridedSlice ⟨2, ![R, D]⟩ ![0, o] x h (ix2 r l) = x (ix2 r k) := by
  refine extractStridedSlice_apply _ x h _ _ fun a => ?_
  match a with
  | ⟨0, _⟩ => exact (Nat.zero_add _).symm
  | ⟨1, _⟩ => exact hk

/-- Whether a word is a lane's number. -/
theorem eqA {R C : ℕ} (v : IVec ⟨2, ![R, 1]⟩ 32) (hb : (⟨2, ![R, 1]⟩ : Shape).Broadcasts ⟨2, ![R, C]⟩)
    (hi : (⟨2, ![1, C]⟩ : Shape).Iotas .tc 32 [1]) (ht : (⟨2, ![1, C]⟩ : Shape).Broadcasts ⟨2, ![R, C]⟩) (hC : C < 2 ^ 32) (r : Fin R) (l : Fin C) :
    cmpi .eq (broadcastTo ⟨2, ![R, C]⟩ v hb) (broadcastTo ⟨2, ![R, C]⟩ (iota .tc ⟨2, ![1, C]⟩ 32 [1] hi) ht) (ix2 r l)
      = BitVec.ofBool (decide ((v (ix2 r 0)).toNat = l.val)) := by
  have e : (BitVec.ofNat 32 l.val).toNat = l.val := by rw [BitVec.toNat_ofNat]; exact Nat.mod_eq_of_lt (lt_trans l.isLt hC)
  show IntOp.cmpi .eq (broadcastTo _ v hb (ix2 r l)) (broadcastTo _ _ ht (ix2 r l)) = _
  rw [wideA, tallA, iota_single_apply, WordCmp.cmpi_eq_eq_toNat]
  show BitVec.ofBool (decide (_ = (BitVec.ofNat 32 l.val).toNat)) = _
  rw [e]

/-! ## The row's coefficients: one row of a table, by a product with a row of zeros and a one -/

/-- Which of the 64 table rows a row's time names. -/
def hot (tt : IVec S4096x1 32) : FVec Ideal S4096x64 .f32 :=
  sitofp .f32 (extui 32 (cmpi .eq (broadcastTo S4096x64 (shapeCast S4096x1 tt Facts₀.shapeCasts_S4096x1_S4096x1) Facts₀.broadcasts_S4096x1_S4096x64)
    (broadcastTo S4096x64 (iota .tc S1x64 32 [1] Facts₀.iota_S1x64_d1_w32) Facts₀.broadcasts_S1x64_S4096x64)) Facts₀.natLt_1_32)

theorem hot_at (tt : IVec S4096x1 32) (r : Fin 4096) (k : Fin 64) :
    hot tt (ix2 r k) = if (tt (ix2 r 0)).toNat = k.val then (1 : EReal) else 0 := by
  have h1 : ∀ b : BitVec 1, ((((b.zeroExtend 32).toInt : ℝ) : EReal)) = if b = 1#1 then 1 else 0 := by
    intro b
    obtain rfl | rfl : b = 0#1 ∨ b = 1#1 := by revert b; decide
    · simp
    · simp
  refine (h1 _).trans ?_
  rw [eqA _ _ _ _ (by decide), shapeCast_self]
  by_cases h : (tt (ix2 r 0)).toNat = k.val <;> simp [h]

/-- The logarithm of the sum of two exponentials, a column each. -/
def laeCol (a b : FVec Ideal S64x1 .f32) : FVec Ideal S64x1 .f32 :=
  addf (maximumf a b) (log (addf (exp (subf a (maximumf a b))) (exp (subf b (maximumf a b)))))

theorem laeCol_at (a b : FVec Ideal S64x1 .f32) (i : S64x1.Idx) : laeCol a b i = Scalar.lae (a i) (b i) := rfl

/-- The columns of the coefficients a row needs. -/
def pieces (tb : FVec Ideal S64x8 .f32) : List ((s : Shape) × (s.Idx → Ideal .f32)) :=
  [⟨S64x1, laeCol (extractStridedSlice S64x1 ![0, 0] tb Facts₀.slices_S64x8_o0_0_S64x1) (extractStridedSlice S64x1 ![0, 2] tb Facts₀.slices_S64x8_o0_2_S64x1)⟩,
   ⟨S64x1, laeCol (extractStridedSlice S64x1 ![0, 1] tb Facts₀.slices_S64x8_o0_1_S64x1) (extractStridedSlice S64x1 ![0, 2] tb Facts₀.slices_S64x8_o0_2_S64x1)⟩,
   ⟨S64x3, extractStridedSlice S64x3 ![0, 3] tb Facts₀.slices_S64x8_o0_3_S64x3⟩]

/-- The table of the coefficients a row needs. -/
def cols (tb : FVec Ideal S64x8 .f32) : FVec Ideal S64x5 .f32 :=
  concatenate S64x5 1 (pieces tb) Facts₀.concatenates_S64x1_S64x1_S64x3_S64x5_d1

theorem cols_0 (tb : FVec Ideal S64x8 .f32) (k : Fin 64) : cols tb (ix2 k 0) = Scalar.lae (tb (ix2 k 0)) (tb (ix2 k 2)) := by
  refine Eq.trans (concatenate_apply_piece (t := S64x5) 1 (pieces tb) Facts₀.concatenates_S64x1_S64x1_S64x3_S64x5_d1 (ix2 k 0) 0 (show 0 < 3 by decide) S64x1 _ rfl rfl 0 rfl (ix2 k 0) (fun b hb => ?_) rfl) ?_
  · match b with
    | ⟨0, _⟩ => rfl
    | ⟨1, _⟩ => exact absurd rfl hb
  · rw [laeCol_at, cutA 0 tb _ k 0 0 rfl, cutA 2 tb _ k 0 2 rfl]

theorem cols_1 (tb : FVec Ideal S64x8 .f32) (k : Fin 64) : cols tb (ix2 k 1) = Scalar.lae (tb (ix2 k 1)) (tb (ix2 k 2)) := by
  refine Eq.trans (concatenate_apply_piece (t := S64x5) 1 (pieces tb) Facts₀.concatenates_S64x1_S64x1_S64x3_S64x5_d1 (ix2 k 1) 1 (show 1 < 3 by decide) S64x1 _ rfl rfl 1 rfl (ix2 k 0) (fun b hb => ?_) rfl) ?_
  · match b with
    | ⟨0, _⟩ => rfl
    | ⟨1, _⟩ => exact absurd rfl hb
  · rw [laeCol_at, cutA 1 tb _ k 0 1 rfl, cutA 2 tb _ k 0 2 rfl]

theorem cols_2 (tb : FVec Ideal S64x8 .f32) (k : Fin 64) (c : Fin 3) : cols tb (ix2 k ⟨2 + c.val, by omega⟩) = tb (ix2 k ⟨3 + c.val, by omega⟩) := by
  refine Eq.trans (concatenate_apply_piece (t := S64x5) 1 (pieces tb) Facts₀.concatenates_S64x1_S64x1_S64x3_S64x5_d1 (ix2 k ⟨2 + c.val, by omega⟩) 2 (show 2 < 3 by decide) S64x3 _ rfl rfl 2 rfl (ix2 k c) (fun b hb => ?_) rfl) ?_
  · match b with
    | ⟨0, _⟩ => rfl
    | ⟨1, _⟩ => exact absurd rfl hb
  · exact cutA 3 tb _ k c _ rfl

theorem pay1_eq (tb : FVec Ideal S64x8 .f32) (tt : IVec S4096x1 32) :
    k1_pay1 (F := Ideal) tb tt = matmul dot_S4096x64_S64x5_S4096x5_1_0_0_1_n_n (some .fp32) (hot tt) (cols tb) (constant S4096x5 .f32 0x00000000#32) := by
  unfold k1_pay1
  dsimp only
  rw [shapeCast_self tb]
  rfl

/-- The product picks the row the time names. -/
theorem pay1_at (tb : FVec Ideal S64x8 .f32) (tt : IVec S4096x1 32) (r : Fin 4096) (c : Fin 5) (t : Fin 64) (ht : (tt (ix2 r 0)).toNat = t.val) :
    k1_pay1 (F := Ideal) tb tt (ix2 r c) = cols tb (ix2 t c) := by
  rw [pay1_eq]
  refine (Ideal.matmul_plain_apply (M := 4096) (K := 64) (N := 5) (some .fp32) (hot tt) (cols tb) _ r c).trans ?_
  have h0 : (constant (F := Ideal) S4096x5 .f32 0x00000000#32) (ix2 r c) = 0 := Ideal.ofBits_zero_f32
  rw [h0, zero_add, Finset.sum_eq_single t]
  · rw [hot_at, if_pos ht, one_mul]
  · intro k _ hk
    rw [hot_at, if_neg (fun e => hk (Fin.ext (e.symm.trans ht))), zero_mul]
  · exact fun h => absurd (Finset.mem_univ _) h

/-! ## The coefficients of a row, and whether its time is zero -/

/-- One half, and where it stands. -/
theorem half_eq : Ideal.ofBits .f32 0x3F000000#32 = ((((8388608 : ℕ) : ℝ) * (2 : ℝ) ^ (-24 : ℤ) : ℝ) : EReal) := by
  simp [Ideal.ofBits, Ideal.ieee]

theorem half_lt : Ideal.ofBits .f32 0x3F000000#32 < 1 := by
  rw [half_eq, ← EReal.coe_one]; exact EReal.coe_lt_coe_iff.2 (by norm_num)

theorem not_half_lt : ¬ Ideal.ofBits .f32 0x3F000000#32 < 0 := by
  rw [half_eq, ← EReal.coe_zero, not_lt]; exact EReal.coe_le_coe_iff.2 (by norm_num)

theorem pay6_eq (tb : FVec Ideal S64x8 .f32) (tt : IVec S4096x1 32) : k1_pay6 (F := Ideal) tb tt
    = broadcastTo S4096x128 (shapeCast S4096x1 (extractStridedSlice S4096x1 ![0, 0] (k1_pay1 (F := Ideal) tb tt) Facts₀.slices_S4096x5_o0_0_S4096x1)
        Facts₀.shapeCasts_S4096x1_S4096x1) Facts₀.broadcasts_S4096x1_S4096x128 := rfl

theorem pay7_eq (tb : FVec Ideal S64x8 .f32) (tt : IVec S4096x1 32) : k1_pay7 (F := Ideal) tb tt
    = shapeCast S4096x1 (extractStridedSlice S4096x1 ![0, 1] (k1_pay1 (F := Ideal) tb tt) Facts₀.slices_S4096x5_o0_1_S4096x1)
        Facts₀.shapeCasts_S4096x1_S4096x1 := rfl

section Row

variable (tb : FVec Ideal S64x8 .f32) (tt : IVec S4096x1 32) (r : Fin 4096) (t : Fin 64) (ht : (tt (ix2 r 0)).toNat = t.val)
include ht

theorem pay2_at : k1_pay2 (F := Ideal) tb tt (ix2 r 0) = tb (ix2 t 3) :=
  (cutA 2 (k1_pay1 (F := Ideal) tb tt) Facts₀.slices_S4096x5_o0_2_S4096x1 r 0 2 rfl).trans ((pay1_at tb tt r 2 t ht).trans (cols_2 tb t 0))

theorem pay3_at : k1_pay3 (F := Ideal) tb tt (ix2 r 0) = tb (ix2 t 4) :=
  (cutA 3 (k1_pay1 (F := Ideal) tb tt) Facts₀.slices_S4096x5_o0_3_S4096x1 r 0 3 rfl).trans ((pay1_at tb tt r 3 t ht).trans (cols_2 tb t 1))

theorem pay6_at (l : Fin 128) : k1_pay6 (F := Ideal) tb tt (ix2 r l) = Scalar.lae (tb (ix2 t 0)) (tb (ix2 t 2)) := by
  rw [pay6_eq, wideA, shapeCast_self]
  exact (cutA 0 (k1_pay1 (F := Ideal) tb tt) _ r 0 0 rfl).trans ((pay1_at tb tt r 0 t ht).trans (cols_0 tb t))

theorem pay7_at : k1_pay7 (F := Ideal) tb tt (ix2 r 0) = Scalar.lae (tb (ix2 t 1)) (tb (ix2 t 2)) := by
  rw [pay7_eq, shapeCast_self]
  exact (cutA 1 (k1_pay1 (F := Ideal) tb tt) _ r 0 1 rfl).trans ((pay1_at tb tt r 1 t ht).trans (cols_1 tb t))

theorem pay4_at (p : Prop) [Decidable p] (h5 : tb (ix2 t 5) = if p then 1 else 0) :
    k1_pay4 (F := Ideal) tb tt (ix2 r 0) = BitVec.ofBool (decide p) := by
  have e : extractStridedSlice S4096x1 ![0, 4] (k1_pay1 (F := Ideal) tb tt) Facts₀.slices_S4096x5_o0_4_S4096x1 (ix2 r 0) = tb (ix2 t 5) :=
    (cutA 4 (k1_pay1 (F := Ideal) tb tt) _ r 0 4 rfl).trans ((pay1_at tb tt r 4 t ht).trans (cols_2 tb t 2))
  show Ideal.cmp .ogt (extractStridedSlice S4096x1 ![0, 4] (k1_pay1 (F := Ideal) tb tt) Facts₀.slices_S4096x5_o0_4_S4096x1 (ix2 r 0)) (Ideal.ofBits .f32 0x3F000000#32) = _
  rw [e, h5]
  by_cases hp : p
  · rw [if_pos hp, decide_eq_true hp]
    exact congrArg BitVec.ofBool (decide_eq_true half_lt)
  · rw [if_neg hp, decide_eq_false hp]
    exact congrArg BitVec.ofBool (decide_eq_false not_half_lt)

end Row

theorem pay5_at (xt : IVec S4096x1 32) (r : Fin 4096) (l : Fin 128) :
    k1_pay5 (F := Ideal) xt (ix2 r l) = BitVec.ofBool (decide ((xt (ix2 r 0)).toNat = l.val)) := by
  refine (eqA (shapeCast S4096x1 xt Facts₀.shapeCasts_S4096x1_S4096x1) _ Facts₀.iota_S1x128_d1_w32 _ (by decide) r l).trans ?_
  rw [shapeCast_self]

/-! ## The sum of terms, and its normalisation -/

/-- The row sums of terms. -/
def sums (x : FVec Ideal S4096x128 .f32) (v36 v37 : FVec Ideal S4096x1 .f32) (v45 : IVec S4096x128 1) (v47 : FVec Ideal S4096x128 .f32)
    (v48 : FVec Ideal S4096x1 .f32) : FVec Ideal S4096x128 .f32 :=
  addf (select v45 v47 (broadcastTo S4096x128 v48 Facts₀.broadcasts_S4096x1_S4096x128))
    (addf (maximumf (addf (broadcastTo S4096x128 v36 Facts₀.broadcasts_S4096x1_S4096x128) x) (broadcastTo S4096x128 v37 Facts₀.broadcasts_S4096x1_S4096x128))
      (log (addf
        (exp (subf (addf (broadcastTo S4096x128 v36 Facts₀.broadcasts_S4096x1_S4096x128) x)
          (maximumf (addf (broadcastTo S4096x128 v36 Facts₀.broadcasts_S4096x1_S4096x128) x) (broadcastTo S4096x128 v37 Facts₀.broadcasts_S4096x1_S4096x128))))
        (exp (subf (broadcastTo S4096x128 v37 Facts₀.broadcasts_S4096x1_S4096x128)
          (maximumf (addf (broadcastTo S4096x128 v36 Facts₀.broadcasts_S4096x1_S4096x128) x) (broadcastTo S4096x128 v37 Facts₀.broadcasts_S4096x1_S4096x128)))))))

theorem sums_at (x : FVec Ideal S4096x128 .f32) (v36 v37 : FVec Ideal S4096x1 .f32) (v45 : IVec S4096x128 1) (v47 : FVec Ideal S4096x128 .f32)
    (v48 : FVec Ideal S4096x1 .f32) (r : Fin 4096) (l : Fin 128) :
    sums x v36 v37 v45 v47 v48 (ix2 r l)
      = Scalar.select (v45 (ix2 r l)) (v47 (ix2 r l)) (v48 (ix2 r 0)) + Cert.Proof.Scalar.lae (v36 (ix2 r 0) + x (ix2 r l)) (v37 (ix2 r 0)) := by
  unfold sums
  simp only [addA, subA, maxA, expA, logA, selA, wideA]
  rfl

theorem neg_inf : Ideal.ofBits .f32 0xFF800000#32 = (⊥ : EReal) := by simp [Ideal.ofBits, Ideal.ieee]

/-- The rows' maxima, a column. -/
def tops (s : FVec Ideal S4096x128 .f32) : FVec Ideal S4096x1 .f32 :=
  shapeCast S4096x1 (multiReduction .maximumf [1] S4096 s 0xFF800000#32 Facts₀.reduces_S4096x128_S4096 (.inl rfl) rfl) Facts₀.shapeCasts_S4096_S4096x1

theorem tops_at (s : FVec Ideal S4096x128 .f32) (r : Fin 4096) : tops s (ix2 r 0) = Cert.Proof.Scalar.rowMax fun k => s (ix2 r k) := by
  refine (shapeCast_a_a1_apply _ _ r 0).trans ?_
  refine (Ideal.multiReduction_maximumf_single s _ Facts₀.reduces_S4096x128_S4096 _ _ (ix1 r)).trans ?_
  have e : s ∘ Facts₀.reduces_S4096x128_S4096.lift (ix1 r) = fun k => s (ix2 r k) :=
    funext fun k => congrArg s (First.at_eq Facts₀.reduces_S4096x128_S4096 r k)
  rw [e]
  show Finset.fold max (Ideal.ofBits .f32 0xFF800000#32) _ _ = _
  rw [neg_inf]
  rfl

/-- The rows' sums of exponentials about the maximum, a column. -/
def totals (s : FVec Ideal S4096x128 .f32) : FVec Ideal S4096x1 .f32 :=
  shapeCast S4096x1 (multiReduction .add [1] S4096 (exp (subf s (broadcastTo S4096x128 (tops s) Facts₀.broadcasts_S4096x1_S4096x128)))
    0x00000000#32 Facts₀.reduces_S4096x128_S4096 (.inl rfl) rfl) Facts₀.shapeCasts_S4096_S4096x1

theorem totals_at (s : FVec Ideal S4096x128 .f32) (r : Fin 4096) :
    totals s (ix2 r 0) = ∑ k : Fin 128, Ideal.exp (s (ix2 r k) - Cert.Proof.Scalar.rowMax fun k => s (ix2 r k)) := by
  refine (shapeCast_a_a1_apply _ _ r 0).trans ?_
  refine (Ideal.multiReduction_add_single _ _ Facts₀.reduces_S4096x128_S4096 _ _ (ix1 r)).trans (Finset.sum_congr rfl fun (k : Fin 128) _ => ?_)
  refine (congrArg _ (First.at_eq Facts₀.reduces_S4096x128_S4096 r k)).trans ?_
  rw [expA, subA, wideA, tops_at]

/-- The rows normalised. -/
def normed (s : FVec Ideal S4096x128 .f32) : FVec Ideal S4096x128 .f32 :=
  subf s (broadcastTo S4096x128 (addf (tops s) (log (totals s))) Facts₀.broadcasts_S4096x1_S4096x128)

theorem normed_at (s : FVec Ideal S4096x128 .f32) (r : Fin 4096) (l : Fin 128) :
    normed s (ix2 r l) = Cert.Proof.Scalar.rowLP (fun k => s (ix2 r k)) l := by
  unfold normed
  rw [subA, wideA, addA, logA, tops_at, totals_at]
  rfl

theorem pay8_eq (x : FVec Ideal S4096x128 .f32) (v36 v37 : FVec Ideal S4096x1 .f32) (v40 : IVec S4096x1 1) (v45 : IVec S4096x128 1)
    (v47 : FVec Ideal S4096x128 .f32) (v48 : FVec Ideal S4096x1 .f32) :
    k1_pay8 (F := Ideal) x v36 v37 v40 v45 v47 v48
      = select (broadcastTo S4096x128 (shapeCast S4096x1 v40 Facts₀.shapeCasts_S4096x1_S4096x1) Facts₀.broadcasts_S4096x1_S4096x128) x
          (normed (sums x v36 v37 v45 v47 v48)) := rfl

/-! ## The noise -/

def noise (g : FVec Ideal S4096x128 .f32) : FVec Ideal S4096x128 .f32 :=
  subf (broadcast S4096x128 (Scalar.ofBits .f32 0x00000000#32))
    (log (addf (subf (broadcast S4096x128 (Scalar.ofBits .f32 0x00000000#32))
        (log (addf g (broadcast S4096x128 (Scalar.ofBits .f32 0x0DA24260#32))))) (broadcast S4096x128 (Scalar.ofBits .f32 0x0DA24260#32))))

theorem noise_at (g : FVec Ideal S4096x128 .f32) (i : S4096x128.Idx) : noise g i = Cert.Proof.Scalar.gum (g i) := by
  unfold noise
  simp only [addA, subA, logA, bcA, bitsA, Ideal.ofBits_zero_f32, zero_sub]
  rfl

theorem pay9_eq (x : FVec Ideal S4096x128 .f32) (v36 v37 : FVec Ideal S4096x1 .f32) (v40 : IVec S4096x1 1) (v45 : IVec S4096x128 1)
    (v47 : FVec Ideal S4096x128 .f32) (v48 : FVec Ideal S4096x1 .f32) (g : FVec Ideal S4096x128 .f32) :
    k1_pay9 (F := Ideal) x v36 v37 v40 v45 v47 v48 g
      = shapeCast S4096x1 (reduceIndex .argMax 1 S4096
          (select (broadcastTo S4096x128 (shapeCast S4096x1 v40 Facts₀.shapeCasts_S4096x1_S4096x1) Facts₀.broadcasts_S4096x1_S4096x128) x
            (addf (noise g) (k1_pay8 (F := Ideal) x v36 v37 v40 v45 v47 v48))) Facts₀.reduces_S4096x128_S4096) Facts₀.shapeCasts_S4096_S4096x1 := rfl

/-! ## The two blocks -/

section Blocks

variable (x g : FVec Ideal S4096x128 .f32) (xt tt : IVec S4096x1 32) (tb : FVec Ideal S64x8 .f32) (r : Fin 4096) (t : Fin 64)
  (ht : (tt (ix2 r 0)).toNat = t.val) (p : Prop) [Decidable p] (h5 : tb (ix2 t 5) = if p then 1 else 0)

/-- A row's sums, from its table row. -/
def rowOf (A : Fin 8 → EReal) (cls : ℕ) (x : Fin 128 → EReal) : Fin 128 → EReal :=
  Cert.Proof.Scalar.rowSum (Cert.Proof.Scalar.lae (A 0) (A 2)) (Cert.Proof.Scalar.lae (A 1) (A 2)) (A 3) (A 4) cls x

include ht in
theorem sums_row (l : Fin 128) :
    sums x (k1_pay2 (F := Ideal) tb tt) (k1_pay3 (F := Ideal) tb tt) (k1_pay5 (F := Ideal) xt) (k1_pay6 (F := Ideal) tb tt) (k1_pay7 (F := Ideal) tb tt) (ix2 r l)
      = rowOf (fun c => tb (ix2 t c)) (xt (ix2 r 0)).toNat (fun k => x (ix2 r k)) l := by
  rw [sums_at, pay2_at tb tt r t ht, pay3_at tb tt r t ht, pay5_at, pay6_at tb tt r t ht, pay7_at tb tt r t ht]
  unfold rowOf Cert.Proof.Scalar.rowSum
  by_cases h : (xt (ix2 r 0)).toNat = l.val
  · rw [if_pos h, decide_eq_true h]; rfl
  · rw [if_neg h, decide_eq_false h]; rfl

include ht h5 in
theorem lpBlk_at (l : Fin 128) :
    lpBlk (F := Ideal) x xt tt tb (ix2 r l)
      = Cert.Proof.Scalar.outLP p (fun k => x (ix2 r k)) (rowOf (fun c => tb (ix2 t c)) (xt (ix2 r 0)).toNat (fun k => x (ix2 r k))) l := by
  unfold lpBlk
  rw [pay8_eq, selA, wideA, shapeCast_self, pay4_at tb tt r t ht p h5, normed_at, funext (sums_row x xt tt tb r t ht)]
  unfold Cert.Proof.Scalar.outLP
  by_cases h : p
  · rw [if_pos h, decide_eq_true h]; rfl
  · rw [if_neg h, decide_eq_false h]; rfl

include ht h5 in
theorem smBlk_at (n : Fin 128)
    (hn : IsFirst (Cert.Proof.Scalar.scores p (fun k => x (ix2 r k)) (fun k => g (ix2 r k))
      (rowOf (fun c => tb (ix2 t c)) (xt (ix2 r 0)).toNat (fun k => x (ix2 r k)))) n) :
    smBlk (F := Ideal) x g xt tt tb (ix2 r 0) = BitVec.ofNat 32 n.val := by
  unfold smBlk
  rw [pay9_eq]
  refine (shapeCast_a_a1_apply _ _ r 0).trans ?_
  refine First.reduceIndex_first (R := 4096) Facts₀.reduces_S4096x128_S4096 _ (ix1 r) n ?_
  convert hn using 1
  funext l
  refine (congrArg _ (First.at_eq Facts₀.reduces_S4096x128_S4096 r l)).trans ?_
  have h8 := lpBlk_at x xt tt tb r t ht p h5 l
  unfold lpBlk Cert.Proof.Scalar.outLP at h8
  rw [selA, wideA, shapeCast_self, pay4_at tb tt r t ht p h5, addA, noise_at, h8]
  unfold Cert.Proof.Scalar.scores
  by_cases h : p
  · simp only [if_pos h, decide_eq_true h]; rfl
  · simp only [if_neg h, decide_eq_false h]; rfl

end Blocks

end Cert.Proof.BlockAt

end
-- ==== Proof.RefRead.lean ====
/-
  What the reference's line leaves in its two results, as functions of its arguments: read half by half.
-/
module

public import proofs.«01_k».proof.Proof.RefRun
public import proofs.«01_k».proof.Proof.Gen.Pre_in_range_no_tie
public import Idealize.ShloMosaic.Lib.Pipeline.Regions

@[expose] public section

set_option maxRecDepth 16384

noncomputable section

namespace Cert.Proof.Ref

open Cert.ReferenceIdeal Cert.ReferenceIdeal.Facts₀
open Idealize.ShloMosaic Idealize.ShloMosaic.TcCoe Idealize.ShloMosaic.StableHlo Idealize.SL.Sem
open Cert.Pre_in_range_no_tie (fn_take fn_take_0 fn_one_hot fn_clip fn_where_2 fn_where_3 fn_argmax fn_argmax_4 fn_where_5)

variable {F : FTy → Type} [FloatOps F]

/-! ## The stages -/

/-- A coefficient's column: its entry at each row's timestep. -/
def col (c : FVec F S50 .f32) (ts : IVec S128 32) (bt : IVec S32768 32) : FVec F S32768x1 .f32 :=
  broadcastInDim S32768x1 ![0] bcast_S32768_S32768x1_0 (fn_take_0 (fn_take c ts) bt)

/-- Which rows have timestep zero. -/
def zeroAt (ts : IVec S128 32) (bt : IVec S32768 32) : IVec S32768 1 :=
  cmpi .eq (Host.gather gather_S128_S32768x1_S32768_n_0_n_n_0_1_1 ts
    (broadcastInDim S32768x1 ![0] bcast_S32768_S32768x1_0
      (select (cmpi .slt bt (broadcastInDim S32768 ![] bcast_S_S32768 (constantI S_ 32 0#32)))
        (addi bt (broadcastInDim S32768 ![] bcast_S_S32768 (constantI S_ 32 128#32))) bt)))
    (broadcastInDim S32768 ![] bcast_S_S32768 (constantI S_ 32 0#32))

/-- A column over the lanes. -/
def wide (c : FVec F S32768x1 .f32) : FVec F S32768x128 .f32 :=
  broadcastInDim S32768x128 ![0, 1] bcast_S32768x1_S32768x128_0_1 c

/-- The initial log-probability over the rows. -/
def init : FVec F S32768x128 .f32 :=
  broadcastInDim S32768x128 ![0, 1] bcast_S1x128_S32768x128_0_1
    (broadcastInDim S1x128 ![1] bcast_S128_S1x128_1 (constant S128 .f32 0xC09B43D5#32))

/-- The logarithm of the sum of two exponentials, about their maximum. -/
def lae (a b : FVec F S32768x128 .f32) : FVec F S32768x128 .f32 :=
  addf (maximumf a b) (Host.log (addf (Host.exp (subf a (maximumf a b))) (Host.exp (subf b (maximumf a b)))))

/-- The log-probability of the sample's own class. -/
def leftTerm (xt : IVec S32768 32) (a b : FVec F S32768x1 .f32) : FVec F S32768x128 .f32 :=
  lae (addf (Host.log (fn_clip (fn_one_hot xt) (constant S_ .f32 0x0DA24260#32))) (wide a)) (addf (wide b) init)

/-- The log-probability from the prediction. -/
def rightTerm (x : FVec F S32768x128 .f32) (a b : FVec F S32768x1 .f32) : FVec F S32768x128 .f32 :=
  lae (addf (wide a) x) (addf (wide b) init)

/-- A row's maximum, zero where it is infinite. -/
def guarded (s : FVec F S32768x128 .f32) : FVec F S32768x1 .f32 :=
  fn_where_2
    (cmpf .olt (Host.absf (broadcastInDim S32768x1 ![0] bcast_S32768_S32768x1_0
        (Host.reduce FloatOps.maximumf s (constant S_ .f32 0xFF800000#32) reducesTo_S32768x128_S32768_d1 h_S_)))
      (broadcastInDim S32768x1 ![] bcast_S_S32768x1 (constant S_ .f32 0x7F800000#32)))
    (broadcastInDim S32768x1 ![0] bcast_S32768_S32768x1_0
      (Host.reduce FloatOps.maximumf s (constant S_ .f32 0xFF800000#32) reducesTo_S32768x128_S32768_d1 h_S_))
    (constant S_ .f32 0x00000000#32)

/-- A row less the logarithm of its exponentials' sum. -/
def normalized (s : FVec F S32768x128 .f32) : FVec F S32768x128 .f32 :=
  subf s (wide (addf
    (Host.log (broadcastInDim S32768x1 ![0] bcast_S32768_S32768x1_0
      (Host.reduceAdd (Host.exp (subf s (wide (guarded s)))) (constant S_ .f32 0x00000000#32)
        reducesTo_S32768x128_S32768_d1 h_S_))) (guarded s)))

/-- The first result: the prediction where the timestep is zero, the normalised sum elsewhere. -/
def logProb (x s : FVec F S32768x128 .f32) (z : IVec S32768 1) : FVec F S32768x128 .f32 :=
  fn_where_3 (F := F) (broadcastInDim S32768x1 ![0] bcast_S32768_S32768x1_0 z) x (normalized s)

/-- The noise added before the choice. -/
def noise (u : FVec F S32768x128 .f32) : FVec F S32768x128 .f32 :=
  Host.negf (Host.log (addf
    (Host.negf (Host.log (addf u (broadcastInDim S32768x128 ![] bcast_S_S32768x128 (constant S_ .f32 0x0DA24260#32)))))
    (broadcastInDim S32768x128 ![] bcast_S_S32768x128 (constant S_ .f32 0x0DA24260#32))))

/-- The second result: the class chosen. -/
def choice (x u s : FVec F S32768x128 .f32) (z : IVec S32768 1) : IVec S32768 32 :=
  fn_where_5 (F := F) z (fn_argmax_4 x) (fn_argmax (addf (noise u) (logProb x s z)))

/-- The four coefficients, by timestep. -/
def coef0 : FVec F S50 .f32 := fun i => FloatOps.ofBits .f32 (lit0 (S50.rowMajor i))
def coef1 : FVec F S50 .f32 := fun i => FloatOps.ofBits .f32 (lit1 (S50.rowMajor i))
def coef2 : FVec F S50 .f32 := fun i => FloatOps.ofBits .f32 (lit2 (S50.rowMajor i))
def coef3 : FVec F S50 .f32 := fun i => FloatOps.ofBits .f32 (lit3 (S50.rowMajor i))

/-- The two terms' sum. -/
def sumTerm (x : FVec F S32768x128 .f32) (xt : IVec S32768 32) (ts : IVec S128 32) (bt : IVec S32768 32) :
    FVec F S32768x128 .f32 :=
  addf (leftTerm xt (col coef0 ts bt) (col coef1 ts bt)) (rightTerm x (col coef2 ts bt) (col coef3 ts bt))

/-! ## Contents at a literal buffer's own type are themselves -/

theorem of_v66 (p q s) (v : (⟨S32768x1, .i1⟩ : BufTy).Contents (Elt F)) : (TRef.of (sig := sig) (T := ⟨S32768x1, .i1⟩) main_v66 p q s).ofBuf v = v := rfl
theorem to_v66 (p q s) (v : (⟨S32768x1, .i1⟩ : BufTy).Contents (Elt F)) : (TRef.of (sig := sig) (T := ⟨S32768x1, .i1⟩) main_v66 p q s).toBuf v = v := rfl
theorem of_arg0 (p q s) (v : (⟨S32768x128, .f32⟩ : BufTy).Contents (Elt F)) : (TRef.of (sig := sig) (T := ⟨S32768x128, .f32⟩) main_arg0 p q s).ofBuf v = v := rfl
theorem to_arg0 (p q s) (v : (⟨S32768x128, .f32⟩ : BufTy).Contents (Elt F)) : (TRef.of (sig := sig) (T := ⟨S32768x128, .f32⟩) main_arg0 p q s).toBuf v = v := rfl
theorem of_v65 (p q s) (v : (⟨S32768x128, .f32⟩ : BufTy).Contents (Elt F)) : (TRef.of (sig := sig) (T := ⟨S32768x128, .f32⟩) main_v65 p q s).ofBuf v = v := rfl
theorem to_v65 (p q s) (v : (⟨S32768x128, .f32⟩ : BufTy).Contents (Elt F)) : (TRef.of (sig := sig) (T := ⟨S32768x128, .f32⟩) main_v65 p q s).toBuf v = v := rfl
theorem of_v67 (p q s) (v : (⟨S32768x128, .f32⟩ : BufTy).Contents (Elt F)) : (TRef.of (sig := sig) (T := ⟨S32768x128, .f32⟩) main_v67 p q s).ofBuf v = v := rfl
theorem to_v67 (p q s) (v : (⟨S32768x128, .f32⟩ : BufTy).Contents (Elt F)) : (TRef.of (sig := sig) (T := ⟨S32768x128, .f32⟩) main_v67 p q s).toBuf v = v := rfl
theorem of_v55 (p q s) (v : (⟨S32768x1, .i1⟩ : BufTy).Contents (Elt F)) : (TRef.of (sig := sig) (T := ⟨S32768x1, .i1⟩) main_v55 p q s).ofBuf v = v := rfl
theorem to_v55 (p q s) (v : (⟨S32768x1, .i1⟩ : BufTy).Contents (Elt F)) : (TRef.of (sig := sig) (T := ⟨S32768x1, .i1⟩) main_v55 p q s).toBuf v = v := rfl
theorem of_v52 (p q s) (v : (⟨S32768x1, .f32⟩ : BufTy).Contents (Elt F)) : (TRef.of (sig := sig) (T := ⟨S32768x1, .f32⟩) main_v52 p q s).ofBuf v = v := rfl
theorem to_v52 (p q s) (v : (⟨S32768x1, .f32⟩ : BufTy).Contents (Elt F)) : (TRef.of (sig := sig) (T := ⟨S32768x1, .f32⟩) main_v52 p q s).toBuf v = v := rfl
theorem of_v56 (p q s) (v : (⟨S32768x1, .f32⟩ : BufTy).Contents (Elt F)) : (TRef.of (sig := sig) (T := ⟨S32768x1, .f32⟩) main_v56 p q s).ofBuf v = v := rfl
theorem to_v56 (p q s) (v : (⟨S32768x1, .f32⟩ : BufTy).Contents (Elt F)) : (TRef.of (sig := sig) (T := ⟨S32768x1, .f32⟩) main_v56 p q s).toBuf v = v := rfl
theorem of_cst_9 (p q s) (v : (⟨S_, .f32⟩ : BufTy).Contents (Elt F)) : (TRef.of (sig := sig) (T := ⟨S_, .f32⟩) main_cst_9 p q s).ofBuf v = v := rfl
theorem to_cst_9 (p q s) (v : (⟨S_, .f32⟩ : BufTy).Contents (Elt F)) : (TRef.of (sig := sig) (T := ⟨S_, .f32⟩) main_cst_9 p q s).toBuf v = v := rfl
theorem of_v76 (p q s) (v : (⟨S32768x128, .f32⟩ : BufTy).Contents (Elt F)) : (TRef.of (sig := sig) (T := ⟨S32768x128, .f32⟩) main_v76 p q s).ofBuf v = v := rfl
theorem to_v76 (p q s) (v : (⟨S32768x128, .f32⟩ : BufTy).Contents (Elt F)) : (TRef.of (sig := sig) (T := ⟨S32768x128, .f32⟩) main_v76 p q s).toBuf v = v := rfl
theorem of_v77 (p q s) (v : (⟨S32768, .i32⟩ : BufTy).Contents (Elt F)) : (TRef.of (sig := sig) (T := ⟨S32768, .i32⟩) main_v77 p q s).ofBuf v = v := rfl
theorem to_v77 (p q s) (v : (⟨S32768, .i32⟩ : BufTy).Contents (Elt F)) : (TRef.of (sig := sig) (T := ⟨S32768, .i32⟩) main_v77 p q s).toBuf v = v := rfl
theorem of_v78 (p q s) (v : (⟨S32768, .i32⟩ : BufTy).Contents (Elt F)) : (TRef.of (sig := sig) (T := ⟨S32768, .i32⟩) main_v78 p q s).ofBuf v = v := rfl
theorem to_v78 (p q s) (v : (⟨S32768, .i32⟩ : BufTy).Contents (Elt F)) : (TRef.of (sig := sig) (T := ⟨S32768, .i32⟩) main_v78 p q s).toBuf v = v := rfl
theorem of_v79 (p q s) (v : (⟨S32768, .i32⟩ : BufTy).Contents (Elt F)) : (TRef.of (sig := sig) (T := ⟨S32768, .i32⟩) main_v79 p q s).ofBuf v = v := rfl
theorem to_v79 (p q s) (v : (⟨S32768, .i32⟩ : BufTy).Contents (Elt F)) : (TRef.of (sig := sig) (T := ⟨S32768, .i32⟩) main_v79 p q s).toBuf v = v := rfl
theorem of_v20 (p q s) (v : (⟨S32768, .i1⟩ : BufTy).Contents (Elt F)) : (TRef.of (sig := sig) (T := ⟨S32768, .i1⟩) main_v20 p q s).ofBuf v = v := rfl
theorem to_v20 (p q s) (v : (⟨S32768, .i1⟩ : BufTy).Contents (Elt F)) : (TRef.of (sig := sig) (T := ⟨S32768, .i1⟩) main_v20 p q s).toBuf v = v := rfl
theorem of_arg2 (p q s) (v : (⟨S32768, .i32⟩ : BufTy).Contents (Elt F)) : (TRef.of (sig := sig) (T := ⟨S32768, .i32⟩) main_arg2 p q s).ofBuf v = v := rfl
theorem to_arg2 (p q s) (v : (⟨S32768, .i32⟩ : BufTy).Contents (Elt F)) : (TRef.of (sig := sig) (T := ⟨S32768, .i32⟩) main_arg2 p q s).toBuf v = v := rfl
theorem of_v21 (p q s) (v : (⟨S32768x128, .f32⟩ : BufTy).Contents (Elt F)) : (TRef.of (sig := sig) (T := ⟨S32768x128, .f32⟩) main_v21 p q s).ofBuf v = v := rfl
theorem to_v21 (p q s) (v : (⟨S32768x128, .f32⟩ : BufTy).Contents (Elt F)) : (TRef.of (sig := sig) (T := ⟨S32768x128, .f32⟩) main_v21 p q s).toBuf v = v := rfl
theorem of_v22 (p q s) (v : (⟨S32768x128, .f32⟩ : BufTy).Contents (Elt F)) : (TRef.of (sig := sig) (T := ⟨S32768x128, .f32⟩) main_v22 p q s).ofBuf v = v := rfl
theorem to_v22 (p q s) (v : (⟨S32768x128, .f32⟩ : BufTy).Contents (Elt F)) : (TRef.of (sig := sig) (T := ⟨S32768x128, .f32⟩) main_v22 p q s).toBuf v = v := rfl
theorem of_cst_6 (p q s) (v : (⟨S_, .f32⟩ : BufTy).Contents (Elt F)) : (TRef.of (sig := sig) (T := ⟨S_, .f32⟩) main_cst_6 p q s).ofBuf v = v := rfl
theorem to_cst_6 (p q s) (v : (⟨S_, .f32⟩ : BufTy).Contents (Elt F)) : (TRef.of (sig := sig) (T := ⟨S_, .f32⟩) main_cst_6 p q s).toBuf v = v := rfl
theorem of_arg3 (p q s) (v : (⟨S128, .i32⟩ : BufTy).Contents (Elt F)) : (TRef.of (sig := sig) (T := ⟨S128, .i32⟩) main_arg3 p q s).ofBuf v = v := rfl
theorem to_arg3 (p q s) (v : (⟨S128, .i32⟩ : BufTy).Contents (Elt F)) : (TRef.of (sig := sig) (T := ⟨S128, .i32⟩) main_arg3 p q s).toBuf v = v := rfl
theorem of_arg4 (p q s) (v : (⟨S32768, .i32⟩ : BufTy).Contents (Elt F)) : (TRef.of (sig := sig) (T := ⟨S32768, .i32⟩) main_arg4 p q s).ofBuf v = v := rfl
theorem to_arg4 (p q s) (v : (⟨S32768, .i32⟩ : BufTy).Contents (Elt F)) : (TRef.of (sig := sig) (T := ⟨S32768, .i32⟩) main_arg4 p q s).toBuf v = v := rfl
theorem of_cst (p q s) (v : (⟨S50, .f32⟩ : BufTy).Contents (Elt F)) : (TRef.of (sig := sig) (T := ⟨S50, .f32⟩) main_cst p q s).ofBuf v = v := rfl
theorem to_cst (p q s) (v : (⟨S50, .f32⟩ : BufTy).Contents (Elt F)) : (TRef.of (sig := sig) (T := ⟨S50, .f32⟩) main_cst p q s).toBuf v = v := rfl
theorem of_cst_0 (p q s) (v : (⟨S50, .f32⟩ : BufTy).Contents (Elt F)) : (TRef.of (sig := sig) (T := ⟨S50, .f32⟩) main_cst_0 p q s).ofBuf v = v := rfl
theorem to_cst_0 (p q s) (v : (⟨S50, .f32⟩ : BufTy).Contents (Elt F)) : (TRef.of (sig := sig) (T := ⟨S50, .f32⟩) main_cst_0 p q s).toBuf v = v := rfl
theorem of_cst_1 (p q s) (v : (⟨S50, .f32⟩ : BufTy).Contents (Elt F)) : (TRef.of (sig := sig) (T := ⟨S50, .f32⟩) main_cst_1 p q s).ofBuf v = v := rfl
theorem to_cst_1 (p q s) (v : (⟨S50, .f32⟩ : BufTy).Contents (Elt F)) : (TRef.of (sig := sig) (T := ⟨S50, .f32⟩) main_cst_1 p q s).toBuf v = v := rfl
theorem of_cst_2 (p q s) (v : (⟨S50, .f32⟩ : BufTy).Contents (Elt F)) : (TRef.of (sig := sig) (T := ⟨S50, .f32⟩) main_cst_2 p q s).ofBuf v = v := rfl
theorem to_cst_2 (p q s) (v : (⟨S50, .f32⟩ : BufTy).Contents (Elt F)) : (TRef.of (sig := sig) (T := ⟨S50, .f32⟩) main_cst_2 p q s).toBuf v = v := rfl
theorem of_v0 (p q s) (v : (⟨S128, .f32⟩ : BufTy).Contents (Elt F)) : (TRef.of (sig := sig) (T := ⟨S128, .f32⟩) main_v0 p q s).ofBuf v = v := rfl
theorem to_v0 (p q s) (v : (⟨S128, .f32⟩ : BufTy).Contents (Elt F)) : (TRef.of (sig := sig) (T := ⟨S128, .f32⟩) main_v0 p q s).toBuf v = v := rfl
theorem of_v1 (p q s) (v : (⟨S32768, .f32⟩ : BufTy).Contents (Elt F)) : (TRef.of (sig := sig) (T := ⟨S32768, .f32⟩) main_v1 p q s).ofBuf v = v := rfl
theorem to_v1 (p q s) (v : (⟨S32768, .f32⟩ : BufTy).Contents (Elt F)) : (TRef.of (sig := sig) (T := ⟨S32768, .f32⟩) main_v1 p q s).toBuf v = v := rfl
theorem of_v3 (p q s) (v : (⟨S128, .f32⟩ : BufTy).Contents (Elt F)) : (TRef.of (sig := sig) (T := ⟨S128, .f32⟩) main_v3 p q s).ofBuf v = v := rfl
theorem to_v3 (p q s) (v : (⟨S128, .f32⟩ : BufTy).Contents (Elt F)) : (TRef.of (sig := sig) (T := ⟨S128, .f32⟩) main_v3 p q s).toBuf v = v := rfl
theorem of_v4 (p q s) (v : (⟨S32768, .f32⟩ : BufTy).Contents (Elt F)) : (TRef.of (sig := sig) (T := ⟨S32768, .f32⟩) main_v4 p q s).ofBuf v = v := rfl
theorem to_v4 (p q s) (v : (⟨S32768, .f32⟩ : BufTy).Contents (Elt F)) : (TRef.of (sig := sig) (T := ⟨S32768, .f32⟩) main_v4 p q s).toBuf v = v := rfl
theorem of_v6 (p q s) (v : (⟨S128, .f32⟩ : BufTy).Contents (Elt F)) : (TRef.of (sig := sig) (T := ⟨S128, .f32⟩) main_v6 p q s).ofBuf v = v := rfl
theorem to_v6 (p q s) (v : (⟨S128, .f32⟩ : BufTy).Contents (Elt F)) : (TRef.of (sig := sig) (T := ⟨S128, .f32⟩) main_v6 p q s).toBuf v = v := rfl
theorem of_v7 (p q s) (v : (⟨S32768, .f32⟩ : BufTy).Contents (Elt F)) : (TRef.of (sig := sig) (T := ⟨S32768, .f32⟩) main_v7 p q s).ofBuf v = v := rfl
theorem to_v7 (p q s) (v : (⟨S32768, .f32⟩ : BufTy).Contents (Elt F)) : (TRef.of (sig := sig) (T := ⟨S32768, .f32⟩) main_v7 p q s).toBuf v = v := rfl
theorem of_v9 (p q s) (v : (⟨S128, .f32⟩ : BufTy).Contents (Elt F)) : (TRef.of (sig := sig) (T := ⟨S128, .f32⟩) main_v9 p q s).ofBuf v = v := rfl
theorem to_v9 (p q s) (v : (⟨S128, .f32⟩ : BufTy).Contents (Elt F)) : (TRef.of (sig := sig) (T := ⟨S128, .f32⟩) main_v9 p q s).toBuf v = v := rfl
theorem of_v10 (p q s) (v : (⟨S32768, .f32⟩ : BufTy).Contents (Elt F)) : (TRef.of (sig := sig) (T := ⟨S32768, .f32⟩) main_v10 p q s).ofBuf v = v := rfl
theorem to_v10 (p q s) (v : (⟨S32768, .f32⟩ : BufTy).Contents (Elt F)) : (TRef.of (sig := sig) (T := ⟨S32768, .f32⟩) main_v10 p q s).toBuf v = v := rfl

/-! ## The reads -/

/-- The line after its first half. -/
theorem after_halves (l l' : Line (F := F)) (V : Valuation τ sig (Elt F)) : after (l ++ l') V = after l' (after l V) := by
  induction l generalizing V with
  | nil => rfl
  | cons op l ih => exact ih _

variable (W : Valuation τ sig (Elt F))

theorem second_v67 : after (half1 0).1 W (Proc.devRef .tc main_v67)
    = logProb (W (Proc.devRef .tc main_arg0)) (W (Proc.devRef .tc main_v50)) (W (Proc.devRef .tc main_v20)) := by
  after_reads_simp
  simp only [TRef.ofBuf_toBuf, of_v66, to_v66, of_arg0, to_arg0, of_v65, to_v65, of_v67, to_v67, of_v55, to_v55,
    of_v52, to_v52, of_v56, to_v56, of_cst_9, to_cst_9, of_v76, to_v76, of_v77, to_v77, of_v78, to_v78, of_v79,
    to_v79, of_v20, to_v20, of_arg2, to_arg2, of_v21, to_v21, of_v22, to_v22, of_cst_6, to_cst_6, of_arg3, to_arg3,
    of_arg4, to_arg4, of_cst, to_cst, of_cst_0, to_cst_0, of_cst_1, to_cst_1, of_cst_2, to_cst_2, of_v0, to_v0, of_v1,
    to_v1, of_v3, to_v3, of_v4, to_v4, of_v6, to_v6, of_v7, to_v7, of_v9, to_v9, of_v10, to_v10]
  chain_rfl

theorem second_v79 : after (half1 0).1 W (Proc.devRef .tc main_v79)
    = choice (W (Proc.devRef .tc main_arg0)) (W (Proc.devRef .tc main_arg1)) (W (Proc.devRef .tc main_v50))
        (W (Proc.devRef .tc main_v20)) := by
  after_reads_simp
  simp only [TRef.ofBuf_toBuf, of_v66, to_v66, of_arg0, to_arg0, of_v65, to_v65, of_v67, to_v67, of_v55, to_v55,
    of_v52, to_v52, of_v56, to_v56, of_cst_9, to_cst_9, of_v76, to_v76, of_v77, to_v77, of_v78, to_v78, of_v79,
    to_v79, of_v20, to_v20, of_arg2, to_arg2, of_v21, to_v21, of_v22, to_v22, of_cst_6, to_cst_6, of_arg3, to_arg3,
    of_arg4, to_arg4, of_cst, to_cst, of_cst_0, to_cst_0, of_cst_1, to_cst_1, of_cst_2, to_cst_2, of_v0, to_v0, of_v1,
    to_v1, of_v3, to_v3, of_v4, to_v4, of_v6, to_v6, of_v7, to_v7, of_v9, to_v9, of_v10, to_v10]
  chain_rfl

theorem first_v20 : after (half0 0).1 W (Proc.devRef .tc main_v20)
    = zeroAt (W (Proc.devRef .tc main_arg3)) (W (Proc.devRef .tc main_arg4)) := by
  after_reads_simp
  chain_rfl

theorem first_arg0 : after (half0 0).1 W (Proc.devRef .tc main_arg0) = W (Proc.devRef .tc main_arg0) := by after_reads_simp

theorem first_arg1 : after (half0 0).1 W (Proc.devRef .tc main_arg1) = W (Proc.devRef .tc main_arg1) := by after_reads_simp

theorem first_v50 : after (half0 0).1 W (Proc.devRef .tc main_v50)
    = sumTerm (W (Proc.devRef .tc main_arg0)) (W (Proc.devRef .tc main_arg2)) (W (Proc.devRef .tc main_arg3))
        (W (Proc.devRef .tc main_arg4)) := by
  after_reads_simp
  simp only [TRef.ofBuf_toBuf, of_v66, to_v66, of_arg0, to_arg0, of_v65, to_v65, of_v67, to_v67, of_v55, to_v55,
    of_v52, to_v52, of_v56, to_v56, of_cst_9, to_cst_9, of_v76, to_v76, of_v77, to_v77, of_v78, to_v78, of_v79,
    to_v79, of_v20, to_v20, of_arg2, to_arg2, of_v21, to_v21, of_v22, to_v22, of_cst_6, to_cst_6, of_arg3, to_arg3,
    of_arg4, to_arg4, of_cst, to_cst, of_cst_0, to_cst_0, of_cst_1, to_cst_1, of_cst_2, to_cst_2, of_v0, to_v0, of_v1,
    to_v1, of_v3, to_v3, of_v4, to_v4, of_v6, to_v6, of_v7, to_v7, of_v9, to_v9, of_v10, to_v10]
  chain_rfl

/-! ## The two results -/

section
variable (m : (ℓ : Loc nD τ sig) → Buf (Elt F) ℓ) (d : Dev nD)

/-- The sum's term and the mask at the launch's arguments. -/
def sumAt : FVec F S32768x128 .f32 := sumTerm (m (d.tc.loc main_arg0)) (m (d.tc.loc main_arg2)) (m (d.tc.loc main_arg3)) (m (d.tc.loc main_arg4))
def maskAt : IVec S32768 1 := zeroAt (m (d.tc.loc main_arg3)) (m (d.tc.loc main_arg4))

theorem ops_v67 : after ops (launchContents m d) (Proc.devRef .tc main_v67)
    = logProb (m (d.tc.loc main_arg0)) (sumAt m d) (maskAt m d) := by
  unfold ops
  rw [after_halves, second_v67, first_arg0, first_v50, first_v20]
  rfl

theorem ops_v79 : after ops (launchContents m d) (Proc.devRef .tc main_v79)
    = choice (m (d.tc.loc main_arg0)) (m (d.tc.loc main_arg1)) (sumAt m d) (maskAt m d) := by
  unfold ops
  rw [after_halves, second_v79, first_arg0, first_arg1, first_v50, first_v20]
  rfl

end

end Cert.Proof.Ref

end
-- ==== Proof.RefAt.lean ====
/-
  The reference's two results, element by element, over the extended reals.
-/
module

public import proofs.«01_k».proof.Proof.RefRead
public import proofs.«01_k».proof.Proof.Setup
public import proofs.«01_k».proof.Proof.Scalar
public import proofs.«01_k».proof.Proof.First
public import Idealize.ShloMosaic.Lib.Routing.OpsSearch
public import Idealize.ShloMosaic.Lib.ReduceAll

@[expose] public section

set_option maxRecDepth 16384

noncomputable section

namespace Cert.Proof.Ref

open Idealize.ShloMosaic Idealize.ShloMosaic.Routing Idealize.ShloMosaic.ValueIdx
open Cert.ReferenceIdeal (S32768x128 S32768x1 S32768 S128 S50 S_)
open Cert.Proof.First (IsFirst)
open Cert.Pre_in_range_no_tie (fn_take fn_take_0 fn_one_hot fn_clip fn_where_2 fn_where_3 fn_argmax fn_argmax_4 fn_where_5)
open scoped BigOperators

/-! ## A take by indices in range -/

/-- An index in range is not wrapped. -/
theorem unwrapped {n : ℕ} (hS : (⟨0, ![]⟩ : Shape).BroadcastsInDim (shape1 n) ![]) (v : IVec (shape1 n) 32) (N wrap : BitVec 32)
    (hN : N.toNat < 2 ^ 31) (hv : ∀ p, (v p).toNat < N.toNat) :
    select (cmpi .slt v (broadcastInDim (shape1 n) ![] hS (constantI ⟨0, ![]⟩ 32 0#32)))
      (addi v (broadcastInDim (shape1 n) ![] hS (constantI ⟨0, ![]⟩ 32 wrap))) v = v := by
  funext p
  show Scalar.select (IntOp.cmpi .slt (v p) 0#32) _ (v p) = v p
  rw [WordCmp.cmpi_slt_zero, decide_eq_false (by have := hv p; simp; omega)]
  rfl

/-- The reading of `x` at the indices `v`, those outside the range answered by `alt`. -/
def takeOf {α : Type} {N n : ℕ} (d : GatherDims (shape1 N) (shape2 n 1) (shape1 n))
    (hS : (⟨0, ![]⟩ : Shape).BroadcastsInDim (shape1 n) ![])
    (hC : (shape1 n).BroadcastsInDim (shape2 n 1) (![0] : Fin 1 → Fin (shape2 n 1).rank))
    (hS1 : (⟨0, ![]⟩ : Shape).BroadcastsInDim (shape2 n 1) ![])
    (h1 : (shape1 1).BroadcastsInDim (shape2 1 1) (![1] : Fin 1 → Fin (shape2 1 1).rank))
    (h2 : (shape2 1 1).BroadcastsInDim (shape2 n 1) (![0, 1] : Fin 2 → Fin (shape2 n 1).rank))
    (hr : (shape2 n 1).ReducesTo [1] (shape1 n)) (hu : 0 < (⟨0, ![]⟩ : Shape).numel)
    (x : (shape1 N).Idx → α) (v : IVec (shape1 n) 32) (wrap last : BitVec 32) (alt : (shape1 n).Idx → α) : (shape1 n).Idx → α :=
  let w := select (cmpi .slt v (broadcastInDim (shape1 n) ![] hS (constantI ⟨0, ![]⟩ 32 0#32)))
    (addi v (broadcastInDim (shape1 n) ![] hS (constantI ⟨0, ![]⟩ 32 wrap))) v
  let c := broadcastInDim (shape2 n 1) ![0] hC w
  select (Host.reduce IntOp.andi
      (andi (cmpi .sge c (broadcastInDim (shape2 n 1) ![] hS1 (constantI ⟨0, ![]⟩ 32 0#32)))
        (cmpi .sle c (broadcastInDim (shape2 n 1) ![0, 1] h2 (broadcastInDim (shape2 1 1) ![1] h1 (constantI (shape1 1) 32 last)))))
      (constantI ⟨0, ![]⟩ 1 1#1) hr hu)
    (Host.gather d x c) alt

theorem takeOf_at {α : Type} {N n : ℕ} (d : GatherDims (shape1 N) (shape2 n 1) (shape1 n)) (hcoll : d.collapsedSliceDims = [0])
    (hob : d.operandBatchingDims = []) (hsim : d.startIndexMap = [0]) (hivd : d.indexVectorDim = 1)
    (hS hC hS1 h1 h2 hr hu) (x : (shape1 N).Idx → α) (v : IVec (shape1 n) 32) (wrap last : BitVec 32) (alt : (shape1 n).Idx → α)
    (hN : N < 2 ^ 31) (hlast : last.toNat + 1 = N) (hv : ∀ p, (v p).toNat < N) (p : Fin n) :
    takeOf d hS hC hS1 h1 h2 hr hu x v wrap last alt (ix1 p) = x (ix1 ⟨(v (ix1 p)).toNat, hv _⟩) := by
  have hw : BitVec.toNat (BitVec.ofNat 32 N) = N := by rw [BitVec.toNat_ofNat]; omega
  unfold takeOf
  dsimp only
  rw [unwrapped hS v (BitVec.ofNat 32 N) wrap (by rw [hw]; exact hN) (by rw [hw]; exact hv)]
  have hc : ∀ i, broadcastInDim (shape2 n 1) ![0] hC v i = v (ix1 (i 0)) := fun i => by
    rw [eq_ix2 i]
    obtain h0 : i 1 = (0 : Fin 1) := Subsingleton.elim (α := Fin 1) _ _
    rw [h0]
    exact bcCol hC v (i 0)
  show Scalar.select _ _ _ = _
  rw [Host.reduce_andi_one _ _ hr hu (ix1 p) rfl fun i => ?_]
  · exact (if_pos rfl).trans (take_ap d hcoll hob hsim hivd x _ p (hv _) (lt_trans (hv _) hN) (by rw [hc, BitVec.ofNat_toNat, BitVec.setWidth_eq]; rfl))
  · show IntOp.andi (IntOp.cmpi .sge _ 0#32) (IntOp.cmpi .sle _ last) = 1#1
    rw [hc]
    have := hv (ix1 (i 0))
    refine IntOp.andi_eq_one.2 ⟨?_, ?_⟩
    · rw [WordCmp.cmpi_sge_zero, decide_eq_true (by simpa using lt_trans this hN)]; rfl
    · rw [WordCmp.cmpi_sle_of_lt (by omega) (by omega), decide_eq_true (by omega)]; rfl

/-! ## The stages at an element -/

section
variable (ts : IVec S128 32) (bt : IVec S32768 32) (ht : ∀ i, (ts i).toNat < 50) (hb : ∀ i, (bt i).toNat < 128)

theorem entry_eq (ts : IVec S128 32) (b : BitVec 32) (h : b.toNat < 128) : entry ts b = ts (ix1 ⟨b.toNat, h⟩) := by
  unfold entry
  rw [dif_pos h]
  exact congrArg ts (funext fun a => by match a with | ⟨0, _⟩ => rfl)

theorem entry_lt (ht : ∀ i, (ts i).toNat < 50) (b : BitVec 32) : (entry ts b).toNat < 50 := ht _

/-- A row's timestep. -/
abbrev timeOf (ht : ∀ i, (ts i).toNat < 50) (r : Fin 32768) : Fin 50 := ⟨(entry ts (bt (ix1 r))).toNat, entry_lt ts ht _⟩

include hb in
theorem col_at {F : FTy → Type} [FloatOps F] (c : FVec F S50 .f32) (r : Fin 32768) : col c ts bt (ix2 r 0) = c (ix1 (timeOf ts bt ht r)) := by
  refine (bcCol _ _ r).trans ?_
  refine (takeOf_at Cert.Pre_in_range_no_tie.gather_S128_S32768x1_S32768_n_0_n_n_0_1_1 rfl rfl rfl rfl _ _ _ _ _ _ _
    (fn_take c ts) bt 128#32 127#32 _ (by decide) (by decide) hb r).trans ?_
  refine (takeOf_at Cert.Pre_in_range_no_tie.gather_S50_S128x1_S128_n_0_n_n_0_1_1 rfl rfl rfl rfl _ _ _ _ _ _ _
    c ts 50#32 49#32 _ (by decide) (by decide) ht _).trans ?_
  refine congrArg c (congrArg ix1 (Fin.ext ?_))
  show (ts _).toNat = (entry ts _).toNat
  rw [entry_eq ts _ (hb _)]

include hb in
theorem zeroAt_at (r : Fin 32768) : zeroAt ts bt (ix1 r) = BitVec.ofBool (decide ((timeOf ts bt ht r).val = 0)) := by
  unfold zeroAt
  rw [unwrapped _ bt 128#32 128#32 (by decide) hb]
  show IntOp.cmpi .eq _ 0#32 = _
  rw [take_ap _ rfl rfl rfl rfl ts _ r (hb (ix1 r)) (lt_trans (hb _) (by decide)) (by rw [bcCol]; simp), ← entry_eq ts _ (hb _),
    WordCmp.cmpi_eq_eq_toNat]
  rfl

end

theorem wide_at {F : FTy → Type} [FloatOps F] (c : FVec F S32768x1 .f32) (r : Fin 32768) (l : Fin 128) : wide c (ix2 r l) = c (ix2 r 0) := by
  refine broadcastInDim_apply _ _ _ _ _ fun a => ?_
  match a with
  | ⟨0, _⟩ => rfl
  | ⟨1, _⟩ => rfl

theorem colBits_at (z : IVec S32768 1) (h1 h2) (r : Fin 32768) (l : Fin 128) :
    broadcastInDim S32768x128 ![0, 1] h2 (broadcastInDim S32768x1 ![0] h1 z) (ix2 r l) = z (ix1 r) := bcRows h1 h2 z r l

/-- Whether a word is a lane's. -/
theorem hot_at (xt : IVec S32768 32) (r : Fin 32768) (l : Fin 128) :
    (fn_one_hot (F := Ideal) xt) (ix2 r l) = if (xt (ix1 r)).toNat = l.val then 1 else 0 := by
  have e : (BitVec.ofNat 32 l.val).toNat = l.val := by rw [BitVec.toNat_ofNat]; have := l.isLt; omega
  show (((IntOp.cmpi .eq (broadcastInDim S32768x128 ![0, 1] _ (broadcastInDim S32768x1 ![0] _ xt) (ix2 r l)) (BitVec.ofNat 32 l.val)).toNat : ℝ) : EReal) = _
  rw [bcRows, WordCmp.cmpi_eq_eq_toNat, e]
  by_cases h : (xt (ix1 r)).toNat = l.val <;> simp [h]

/-- The coefficients of a timestep, in order. -/
abbrev C0 (t : Fin 50) : EReal := coef0 (F := Ideal) (ix1 t)
abbrev C1 (t : Fin 50) : EReal := coef1 (F := Ideal) (ix1 t)
abbrev C2 (t : Fin 50) : EReal := coef2 (F := Ideal) (ix1 t)
abbrev C3 (t : Fin 50) : EReal := coef3 (F := Ideal) (ix1 t)

/-- A row of the terms' sum. -/
def rowOf (t : Fin 50) (cls : ℕ) (x : Fin 128 → EReal) : Fin 128 → EReal :=
  Scalar.rowSum (Scalar.lae (C0 t) (C1 t + Scalar.INIT)) (Scalar.lae (Ideal.log Scalar.EPS + C0 t) (C1 t + Scalar.INIT))
    (C2 t) (C3 t + Scalar.INIT) cls x

theorem rowOf_ne_top (t : Fin 50) (cls : ℕ) (x : Fin 128 → EReal) (l : Fin 128) : rowOf t cls x l ≠ ⊤ := by
  unfold rowOf Scalar.rowSum
  refine Scalar.add_ne_top ?_ (Scalar.lae_ne_top _ _)
  split <;> exact Scalar.lae_ne_top _ _

theorem lae_at (a b : FVec Ideal S32768x128 .f32) (j : S32768x128.Idx) : lae a b j = Scalar.lae (a j) (b j) := rfl

theorem leftTerm_at (xt : IVec S32768 32) (a b : FVec Ideal S32768x1 .f32) (r : Fin 32768) (l : Fin 128) :
    leftTerm xt a b (ix2 r l)
      = Scalar.lae (Ideal.log (max Scalar.EPS (fn_one_hot (F := Ideal) xt (ix2 r l))) + a (ix2 r 0)) (b (ix2 r 0) + Scalar.INIT) := by
  unfold leftTerm
  rw [lae_at, ← wide_at a r l, ← wide_at b r l]
  rfl

theorem rightTerm_at (x : FVec Ideal S32768x128 .f32) (a b : FVec Ideal S32768x1 .f32) (r : Fin 32768) (l : Fin 128) :
    rightTerm x a b (ix2 r l) = Scalar.lae (a (ix2 r 0) + x (ix2 r l)) (b (ix2 r 0) + Scalar.INIT) := by
  unfold rightTerm
  rw [lae_at, ← wide_at a r l, ← wide_at b r l]
  rfl

theorem sumTerm_at (x : FVec Ideal S32768x128 .f32) (xt : IVec S32768 32) (ts : IVec S128 32) (bt : IVec S32768 32)
    (ht : ∀ i, (ts i).toNat < 50) (hb : ∀ i, (bt i).toNat < 128) (r : Fin 32768) (l : Fin 128) :
    sumTerm x xt ts bt (ix2 r l) = rowOf (timeOf ts bt ht r) (xt (ix1 r)).toNat (fun k => x (ix2 r k)) l := by
  refine (congrArg₂ (· + ·) (leftTerm_at xt _ _ r l) (rightTerm_at x _ _ r l)).trans ?_
  rw [col_at ts bt ht hb, col_at ts bt ht hb, col_at ts bt ht hb, col_at ts bt ht hb, hot_at, Scalar.log_clip]
  unfold rowOf Scalar.rowSum
  split
  · rw [zero_add]
  · rfl

/-! ## The row's normalisation -/

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem reduces : (First.Grid 32768).Reduces [1] (First.Rows 32768) := by decide

theorem maxCol_at (s : FVec Ideal S32768x128 .f32) (h : S32768x128.ReducesTo [1] S32768) (hu : 0 < S_.numel) (r : Fin 32768) :
    Host.reduce FloatOps.maximumf s (constant (F := Ideal) S_ .f32 0xFF800000#32) h hu (ix1 r) = Scalar.rowMax fun k => s (ix2 r k) := by
  refine (Host.reduce_eq_fold_single (max : EReal → EReal → EReal) s _ h reduces hu (ix1 r)).trans ?_
  unfold Scalar.rowMax
  refine congrArg₂ (fun b f => Finset.univ.fold max b f) neg_inf (funext fun k => congrArg s (First.at_eq _ r k))

theorem where_at (p : IVec S32768x1 1) (a : FVec Ideal S32768x1 .f32) (c : FVec Ideal S_ .f32) (i : S32768x1.Idx) :
    fn_where_2 p a c i = Scalar.select (p i) (a i) (c ix0) := by
  unfold fn_where_2
  dsimp only [select]
  rw [broadcastInDim_scalar_apply]

theorem cmp_at (a b : FVec Ideal S32768x1 .f32) (i : S32768x1.Idx) : cmpf .olt a b i = Ideal.cmp .olt (a i) (b i) := rfl
theorem abs_at (a : FVec Ideal S32768x1 .f32) (i : S32768x1.Idx) : Host.absf a i = max (a i) (-a i) := rfl
theorem const_at {T : Shape} (w : BitVec 32) (i : T.Idx) : constant (F := Ideal) T .f32 w i = Ideal.ofBits .f32 w := rfl

theorem guarded_at (s : FVec Ideal S32768x128 .f32) (r : Fin 32768) : guarded s (ix2 r 0) = Scalar.guard fun k => s (ix2 r k) := by
  unfold guarded
  generalize hM : broadcastInDim (s := S32768) S32768x1 ![0] _ (Host.reduce _ s _ _ _) = M
  have hMr : M (ix2 r 0) = Scalar.rowMax fun k => s (ix2 r k) := by rw [← hM, bcCol, maxCol_at]
  have e : Scalar.select (Ideal.cmp .olt (max (M (ix2 r 0)) (-M (ix2 r 0))) (Ideal.ofBits .f32 0x7F800000#32))
      (M (ix2 r 0)) (Ideal.ofBits .f32 0x00000000#32) = Scalar.guard fun k => s (ix2 r k) := by
    rw [hMr, pos_inf, Ideal.ofBits_zero_f32]
    unfold Scalar.guard
    by_cases h : max (Scalar.rowMax fun k => s (ix2 r k)) (-Scalar.rowMax fun k => s (ix2 r k)) < ⊤
    · rw [if_pos h]; simp only [Ideal.cmp, h, decide_true]; rfl
    · rw [if_neg h]; simp only [Ideal.cmp, h, decide_false]; rfl
  rw [where_at, cmp_at, abs_at, broadcastInDim_scalar_apply, const_at, const_at]
  exact e

theorem sumExp_at (y : FVec Ideal S32768x128 .f32) (h : S32768x128.ReducesTo [1] S32768) (hu : 0 < S_.numel) (r : Fin 32768) :
    Host.reduceAdd y (constant (F := Ideal) S_ .f32 0x00000000#32) h hu (ix1 r) = 0 + ∑ k, y (ix2 r k) := by
  refine (Ideal.hostReduceAdd_single h reduces y _ (ix1 r)).trans ?_
  exact congrArg₂ (· + ·) Ideal.ofBits_zero_f32 (Finset.sum_congr rfl fun k _ => congrArg y (First.at_eq _ r k))

theorem normalized_at (s : FVec Ideal S32768x128 .f32) (r : Fin 32768) (l : Fin 128) (hs : ∀ k, s (ix2 r k) ≠ ⊤) :
    normalized s (ix2 r l) = Scalar.rowLP (fun k => s (ix2 r k)) l := by
  unfold normalized
  refine Eq.trans ?_ (Scalar.guarded_eq (fun k => s (ix2 r k)) hs l)
  have hsub : ∀ c : FVec Ideal S32768x128 .f32, subf s c (ix2 r l) = s (ix2 r l) - c (ix2 r l) := fun _ => rfl
  have hlog : ∀ c g : FVec Ideal S32768x1 .f32, addf (Host.log c) g (ix2 r 0) = Ideal.log (c (ix2 r 0)) + g (ix2 r 0) := fun _ _ => rfl
  have hexp : ∀ (c : FVec Ideal S32768x128 .f32) (k : Fin 128),
      Host.exp (subf s c) (ix2 r k) = Ideal.exp (s (ix2 r k) - c (ix2 r k)) := fun _ _ => rfl
  rw [hsub, wide_at, hlog, guarded_at, bcCol, sumExp_at]
  simp only [hexp, wide_at, guarded_at]

/-! ## The results -/

theorem add_at (a b : FVec Ideal S32768x128 .f32) (i : S32768x128.Idx) : addf a b i = a i + b i := rfl

theorem noise_at (u : FVec Ideal S32768x128 .f32) (i : S32768x128.Idx) : noise u i = Scalar.gum (u i) := by
  have hb : ∀ h, broadcastInDim S32768x128 ![] h (constant (F := Ideal) S_ .f32 0x0DA24260#32) i = Scalar.EPS := fun h => by
    rw [broadcastInDim_scalar_apply, const_at]; rfl
  have hn : ∀ c : FVec Ideal S32768x128 .f32, Host.negf (Host.log c) i = -Ideal.log (c i) := fun _ => rfl
  unfold noise
  rw [hn, add_at, hn, add_at, hb]
  rfl

theorem pairs_at (y : FVec Ideal S32768x128 .f32) (r : Fin 32768) (n : Fin 128) (hy : IsFirst (fun k => y (ix2 r k)) n)
    (h : (First.Grid 32768).ReducesTo [1] (First.Rows 32768)) (hu : 0 < S_.numel) :
    (Host.argReduce (F := Ideal) (φ := .f32) Cert.Pre_in_range_no_tie.reducer_argmax_f32_i32 y (iotaInDim S32768x128 32 1)
      (constant S_ .f32 0xFF800000#32) (constantI S_ 32 0#32) h hu (ix1 r)).2 = BitVec.ofNat 32 n.val :=
  First.argReduce_first reduces h hu y (iotaInDim S32768x128 32 1) (fun _ => rfl) (constant (F := Ideal) S_ .f32 0xFF800000#32)
    (constantI S_ 32 0#32) (fun i => (const_at _ i).trans neg_inf) (fun _ => rfl) (ix1 r) n (by simp only [First.at_eq]; exact hy)

theorem argmax_at (y : FVec Ideal S32768x128 .f32) (r : Fin 32768) (n : Fin 128) (hy : IsFirst (fun k => y (ix2 r k)) n) :
    fn_argmax (F := Ideal) y (ix1 r) = BitVec.ofNat 32 n.val := by
  rw [fn_argmax]
  exact pairs_at y r n hy _ _

theorem argmax_at' (y : FVec Ideal S32768x128 .f32) (r : Fin 32768) (n : Fin 128) (hy : IsFirst (fun k => y (ix2 r k)) n) :
    fn_argmax_4 (F := Ideal) y (ix1 r) = BitVec.ofNat 32 n.val := by
  rw [fn_argmax_4]
  exact pairs_at y r n hy _ _

section
variable (x u : FVec Ideal S32768x128 .f32) (xt : IVec S32768 32) (ts : IVec S128 32) (bt : IVec S32768 32)
  (ht : ∀ i, (ts i).toNat < 50) (hb : ∀ i, (bt i).toNat < 128)

/-- A row of the sum, of the arguments. -/
abbrev sRow (r : Fin 32768) : Fin 128 → EReal := rowOf (timeOf ts bt ht r) (xt (ix1 r)).toNat fun k => x (ix2 r k)

include hb in
theorem logProb_at (r : Fin 32768) (l : Fin 128) :
    logProb x (sumTerm x xt ts bt) (zeroAt ts bt) (ix2 r l)
      = Scalar.outLP ((timeOf ts bt ht r).val = 0) (fun k => x (ix2 r k)) (sRow x xt ts bt ht r) l := by
  have hrow : (fun k => sumTerm x xt ts bt (ix2 r k)) = sRow x xt ts bt ht r := funext fun k => sumTerm_at x xt ts bt ht hb r k
  unfold logProb fn_where_3
  dsimp only [select]
  rw [colBits_at, zeroAt_at ts bt ht hb, normalized_at _ r l fun k => by rw [sumTerm_at x xt ts bt ht hb]; exact rowOf_ne_top _ _ _ _, hrow]
  unfold Scalar.outLP
  by_cases h : (timeOf ts bt ht r).val = 0
  · rw [if_pos h, decide_eq_true h]; rfl
  · rw [if_neg h, decide_eq_false h]; rfl

include hb in
theorem choice_at (r : Fin 32768) (n : Fin 128)
    (hn : IsFirst (Scalar.scores ((timeOf ts bt ht r).val = 0) (fun k => x (ix2 r k)) (fun k => u (ix2 r k)) (sRow x xt ts bt ht r)) n) :
    choice x u (sumTerm x xt ts bt) (zeroAt ts bt) (ix1 r) = BitVec.ofNat 32 n.val := by
  rw [choice, fn_where_5]
  dsimp only [select]
  rw [zeroAt_at ts bt ht hb]
  by_cases h : (timeOf ts bt ht r).val = 0
  · rw [decide_eq_true h]
    refine (if_pos rfl).trans (argmax_at' x r n ?_)
    unfold Scalar.scores at hn
    simpa only [if_pos h] using hn
  · rw [decide_eq_false h]
    refine (if_neg (by decide)).trans (argmax_at _ r n ?_)
    refine Eq.mp (congrArg (IsFirst · n) (funext fun k => ?_)) hn
    rw [add_at, noise_at, logProb_at x xt ts bt ht hb]
    unfold Scalar.scores Scalar.outLP
    rw [if_neg h, if_neg h]

end

end Cert.Proof.Ref

end
-- ==== Proof.TableAt.lean ====
/-
  The table the kernel reads its coefficients from, and each of its rows: the reference's coefficients at a timestep.
-/
module

public import proofs.«01_k».proof.Proof.BlockAt
public import proofs.«01_k».proof.Proof.RefAt

@[expose] public section

set_option maxRecDepth 16384

noncomputable section

namespace Cert.Proof.Table

open Cert.KernelIdeal
open Idealize.ShloMosaic hiding ix1 ix2
open Idealize.ShloMosaic.ValueIdx

/-- The table: a coefficient, the initial log-probability where it is added, the small constant's logarithm where it is. -/
def tab : FVec Ideal S64x8 .f32 :=
  addf (addf (fun i => FloatOps.ofBits .f32 (lit0 (S64x8.rowMajor i))) (fun i => FloatOps.ofBits .f32 (lit1 (S64x8.rowMajor i))))
    (mulf (fun i => FloatOps.ofBits .f32 (lit2 (S64x8.rowMajor i)))
      (broadcastInDim S64x8 ![] Facts₀.bcast_S_S64x8 (Host.log (constant S_ .f32 0x0DA24260#32))))

/-- A timestep's row. -/
abbrev up (t : Fin 50) : Fin 64 := ⟨t.val, by omega⟩

theorem place (t : Fin 50) (c : Fin 8) : (S64x8.rowMajor (ix2 (up t) c)) = ⟨t.val * 8 + c.val, by show _ < 512; omega⟩ :=
  Fin.ext (Shape.rowMajor_val_two _)

theorem tab_at (t : Fin 50) (c : Fin 8) :
    tab (ix2 (up t) c) = Ideal.ofBits .f32 (lit0t (t.val * 8 + c.val)) + Ideal.ofBits .f32 (lit1t (t.val * 8 + c.val))
      + Ideal.ofBits .f32 (lit2t (t.val * 8 + c.val)) * Ideal.log Scalar.EPS := by
  have h : tab (ix2 (up t) c) = Ideal.ofBits .f32 (lit0 (S64x8.rowMajor (ix2 (up t) c))) + Ideal.ofBits .f32 (lit1 (S64x8.rowMajor (ix2 (up t) c)))
      + Ideal.ofBits .f32 (lit2 (S64x8.rowMajor (ix2 (up t) c))) * Ideal.log Scalar.EPS := rfl
  rw [h, place]

/-! ## The words, column by column -/

theorem words : ∀ t : Fin 50,
    (lit0t (t.val * 8 + 0) = Cert.ReferenceIdeal.lit0 t ∧ lit1t (t.val * 8 + 0) = 0x00000000#32 ∧ lit2t (t.val * 8 + 0) = 0x00000000#32)
    ∧ (lit0t (t.val * 8 + 1) = Cert.ReferenceIdeal.lit0 t ∧ lit1t (t.val * 8 + 1) = 0x00000000#32 ∧ lit2t (t.val * 8 + 1) = 0x3F800000#32)
    ∧ (lit0t (t.val * 8 + 2) = Cert.ReferenceIdeal.lit1 t ∧ lit1t (t.val * 8 + 2) = 0xC09B43D5#32 ∧ lit2t (t.val * 8 + 2) = 0x00000000#32)
    ∧ (lit0t (t.val * 8 + 3) = Cert.ReferenceIdeal.lit2 t ∧ lit1t (t.val * 8 + 3) = 0x00000000#32 ∧ lit2t (t.val * 8 + 3) = 0x00000000#32)
    ∧ (lit0t (t.val * 8 + 4) = Cert.ReferenceIdeal.lit3 t ∧ lit1t (t.val * 8 + 4) = 0xC09B43D5#32 ∧ lit2t (t.val * 8 + 4) = 0x00000000#32)
    ∧ (lit0t (t.val * 8 + 5) = (if t.val = 0 then 0x3F800000#32 else 0x00000000#32) ∧ lit1t (t.val * 8 + 5) = 0x00000000#32 ∧ lit2t (t.val * 8 + 5) = 0x00000000#32) := by
  decide +kernel

/-! ## The row, as numbers -/

theorem coef_place (t : Fin 50) : Cert.ReferenceIdeal.S50.rowMajor (ix1 t) = t := Fin.ext (Shape.rowMajor_val_one _)

theorem C0_eq (t : Fin 50) : Ref.C0 t = Ideal.ofBits .f32 (Cert.ReferenceIdeal.lit0 t) := by
  show Ideal.ofBits .f32 (Cert.ReferenceIdeal.lit0 (Cert.ReferenceIdeal.S50.rowMajor (ix1 t))) = _
  rw [coef_place]
theorem C1_eq (t : Fin 50) : Ref.C1 t = Ideal.ofBits .f32 (Cert.ReferenceIdeal.lit1 t) := by
  show Ideal.ofBits .f32 (Cert.ReferenceIdeal.lit1 (Cert.ReferenceIdeal.S50.rowMajor (ix1 t))) = _
  rw [coef_place]
theorem C2_eq (t : Fin 50) : Ref.C2 t = Ideal.ofBits .f32 (Cert.ReferenceIdeal.lit2 t) := by
  show Ideal.ofBits .f32 (Cert.ReferenceIdeal.lit2 (Cert.ReferenceIdeal.S50.rowMajor (ix1 t))) = _
  rw [coef_place]
theorem C3_eq (t : Fin 50) : Ref.C3 t = Ideal.ofBits .f32 (Cert.ReferenceIdeal.lit3 t) := by
  show Ideal.ofBits .f32 (Cert.ReferenceIdeal.lit3 (Cert.ReferenceIdeal.S50.rowMajor (ix1 t))) = _
  rw [coef_place]

theorem zero_word : Ideal.ofBits .f32 0x00000000#32 = (0 : EReal) := Ideal.ofBits_zero_f32
theorem one_word : Ideal.ofBits .f32 0x3F800000#32 = (1 : EReal) := Ideal.ofBits_one_f32

theorem tab_0 (t : Fin 50) : tab (ix2 (up t) 0) = Ref.C0 t := by
  have ⟨⟨a, b, c⟩, _⟩ := words t
  refine (tab_at t 0).trans ?_
  show Ideal.ofBits .f32 (lit0t (t.val * 8 + 0)) + Ideal.ofBits .f32 (lit1t (t.val * 8 + 0)) + Ideal.ofBits .f32 (lit2t (t.val * 8 + 0)) * _ = _
  rw [a, b, c, zero_word, zero_mul, add_zero, add_zero, C0_eq]

theorem tab_1 (t : Fin 50) : tab (ix2 (up t) 1) = Ideal.log Scalar.EPS + Ref.C0 t := by
  have ⟨_, ⟨a, b, c⟩, _⟩ := words t
  refine (tab_at t 1).trans ?_
  show Ideal.ofBits .f32 (lit0t (t.val * 8 + 1)) + Ideal.ofBits .f32 (lit1t (t.val * 8 + 1)) + Ideal.ofBits .f32 (lit2t (t.val * 8 + 1)) * _ = _
  rw [a, b, c, zero_word, one_word, one_mul, add_zero, C0_eq, add_comm]

theorem tab_2 (t : Fin 50) : tab (ix2 (up t) 2) = Ref.C1 t + Scalar.INIT := by
  have ⟨_, _, ⟨a, b, c⟩, _⟩ := words t
  refine (tab_at t 2).trans ?_
  show Ideal.ofBits .f32 (lit0t (t.val * 8 + 2)) + Ideal.ofBits .f32 (lit1t (t.val * 8 + 2)) + Ideal.ofBits .f32 (lit2t (t.val * 8 + 2)) * _ = _
  rw [a, b, c, zero_word, zero_mul, add_zero, C1_eq]
  rfl

theorem tab_3 (t : Fin 50) : tab (ix2 (up t) 3) = Ref.C2 t := by
  have ⟨_, _, _, ⟨a, b, c⟩, _⟩ := words t
  refine (tab_at t 3).trans ?_
  show Ideal.ofBits .f32 (lit0t (t.val * 8 + 3)) + Ideal.ofBits .f32 (lit1t (t.val * 8 + 3)) + Ideal.ofBits .f32 (lit2t (t.val * 8 + 3)) * _ = _
  rw [a, b, c, zero_word, zero_mul, add_zero, add_zero, C2_eq]

theorem tab_4 (t : Fin 50) : tab (ix2 (up t) 4) = Ref.C3 t + Scalar.INIT := by
  have ⟨_, _, _, _, ⟨a, b, c⟩, _⟩ := words t
  refine (tab_at t 4).trans ?_
  show Ideal.ofBits .f32 (lit0t (t.val * 8 + 4)) + Ideal.ofBits .f32 (lit1t (t.val * 8 + 4)) + Ideal.ofBits .f32 (lit2t (t.val * 8 + 4)) * _ = _
  rw [a, b, c, zero_word, zero_mul, add_zero, C3_eq]
  rfl

/-- The column that marks timestep zero. -/
theorem tab_5 (t : Fin 50) : tab (ix2 (up t) 5) = if t.val = 0 then 1 else 0 := by
  have ⟨_, _, _, _, _, ⟨a, b, c⟩⟩ := words t
  refine (tab_at t 5).trans ?_
  show Ideal.ofBits .f32 (lit0t (t.val * 8 + 5)) + Ideal.ofBits .f32 (lit1t (t.val * 8 + 5)) + Ideal.ofBits .f32 (lit2t (t.val * 8 + 5)) * _ = _
  rw [a, b, c, zero_word, zero_mul, add_zero, add_zero]
  by_cases h : t.val = 0
  · rw [if_pos h, if_pos h, one_word]
  · rw [if_neg h, if_neg h, zero_word]

/-- A row of sums from the table is the reference's. -/
theorem rowOf_tab (t : Fin 50) (cls : ℕ) (x : Fin 128 → EReal) :
    BlockAt.rowOf (fun c => tab (ix2 (up t) c)) cls x = Ref.rowOf t cls x := by
  unfold BlockAt.rowOf Ref.rowOf
  beta_reduce
  rw [tab_0, tab_1, tab_2, tab_3, tab_4]

end Cert.Proof.Table

end
-- ==== Proof.ArrsAt.lean ====
/-
  The arrays the TensorCore region is entered from.
-/
module

public import proofs.«01_k».proof.Proof.Frames
public import proofs.«01_k».proof.Proof.TableAt
public import Idealize.ShloMosaic.Lib.Pipeline.ValueKit

@[expose] public section

set_option maxRecDepth 16384

noncomputable section

namespace Cert.Proof.Arrs

open Cert.KernelIdeal Cert.KernelIdeal.Gen
open Idealize.ShloMosaic Idealize.ShloMosaic.TcCoe Idealize.ShloMosaic.Tactic
open Cert.Proof.Dispatch Cert.Proof.Region Cert.Proof.Run

variable (m : (ℓ : Loc nD τ sig) → Buf (Elt Ideal) ℓ) (d : Dev nD)

theorem val2_ne (b : Ref sig .tc) (hb : b ≠ main_v0) : val2 m d (rf b) = val1 m d (rf b) := by
  unfold val2
  exact Function.update_of_ne (fun e => hb (Proc.devRef_injective _ e)) _ _

theorem cst_0 : val1 m d (rf main_cst) = (fun i => FloatOps.ofBits .f32 (lit0 (S64x8.rowMajor i)) : FVec Ideal S64x8 .f32) := by
  unfold val1; after_results_simp; rfl
theorem cst_1 : val1 m d (rf main_cst_0) = (fun i => FloatOps.ofBits .f32 (lit1 (S64x8.rowMajor i)) : FVec Ideal S64x8 .f32) := by
  unfold val1; after_results_simp; rfl
theorem cst_2 : val1 m d (rf main_cst_1) = (fun i => FloatOps.ofBits .f32 (lit2 (S64x8.rowMajor i)) : FVec Ideal S64x8 .f32) := by
  unfold val1; after_results_simp; rfl

theorem val1_arg2 : val1 m d (rf main_arg2) = m (d, rf main_arg2) := by
  unfold val1; after_results_simp; rfl

/-! ## Each array -/

theorem arrs_v7 : arrs m d main_v7 = Table.tab := by
  unfold arrs val3
  after_results_simp
  rw [val2_ne m d main_cst (by decide), val2_ne m d main_cst_0 (by decide), val2_ne m d main_cst_1 (by decide), cst_0, cst_1, cst_2]
  rfl

theorem arrs_v1 (r : Fin 32768) : arrs m d main_v1 (ValueIdx.ix2 r 0) = m (d, rf main_arg2) (ValueIdx.ix1 r) := by
  have h : arrs m d main_v1 = shapeCast S32768x1 (m (d, rf main_arg2)) Facts₀.shapeCasts_S32768_S32768x1 := by
    unfold arrs val3
    after_results_simp
    rw [val2_ne m d main_arg2 (by decide), val1_arg2]
    rfl
  rw [h]
  exact ValueIdx.shapeCast_a_a1_apply _ _ r 0

theorem arrs_v2 (r : Fin 32768) : arrs m d main_v2 (ValueIdx.ix2 r 0) = result m d (ValueIdx.ix1 r) := by
  have h : arrs m d main_v2 = shapeCast S32768x1 (result m d) Facts₀.shapeCasts_S32768_S32768x1 := by
    unfold arrs val3
    after_results_simp
    have e : val2 m d (Proc.tc.devRef main_v0) = result m d := by unfold val2; exact Function.update_self _ _ _
    rw [e]
    rfl
  rw [h]
  exact ValueIdx.shapeCast_a_a1_apply _ _ r 0

theorem arrs_arg (b : Ref sig .tc) (hb : b ∈ Run.args) : arrs m d b = m (d, rf b) := val3_arg m d b hb

theorem val5_v8 : val5 m d (rf main_v8_0) = lpOut (arrs m) lim d := by
  rw [val5_ne m d main_v8_0 (by decide), val4_lp]

theorem val5_v9 (r : Fin 32768) : val5 m d (rf main_v9) (ValueIdx.ix1 r) = smOut (arrs m) lim d (ValueIdx.ix2 r 0) := by
  have h : val5 m d (rf main_v9) = shapeCast S32768 (smOut (arrs m) lim d) Facts₀.shapeCasts_S32768x1_S32768 := by
    unfold val5
    after_results_simp
    rw [val4_sm]
    rfl
  rw [h]
  refine shapeCast_apply _ _ _ (ValueIdx.ix2 r 0) ?_
  rw [Shape.rowMajor_val_one, Shape.rowMajor_val_two]
  show r.val * 1 + 0 = r.val
  omega

/-! ## The windows' blocks at a point -/

theorem idx_0 : ∀ t : Fin cfg1.N, win1_0.index t = ![t.val, 0] := (by decide +kernel : ∀ t : Fin grid1.N, _)
theorem idx_1 : ∀ t : Fin cfg1.N, win1_1.index t = ![t.val, 0] := (by decide +kernel : ∀ t : Fin grid1.N, _)
theorem idx_2 : ∀ t : Fin cfg1.N, win1_2.index t = ![t.val, 0] := (by decide +kernel : ∀ t : Fin grid1.N, _)
theorem idx_3 : ∀ t : Fin cfg1.N, win1_3.index t = ![t.val, 0] := (by decide +kernel : ∀ t : Fin grid1.N, _)
theorem idx_4 : ∀ t : Fin cfg1.N, win1_4.index t = ![0, 0] := (by decide +kernel : ∀ t : Fin grid1.N, _)
theorem idx_5 : ∀ t : Fin cfg1.N, win1_5.index t = ![t.val, 0] := (by decide +kernel : ∀ t : Fin grid1.N, _)
theorem idx_6 : ∀ t : Fin cfg1.N, win1_6.index t = ![t.val, 0] := (by decide +kernel : ∀ t : Fin grid1.N, _)

/-- A block's row in the array. -/
abbrev rowAt (t : Fin cfg1.N) (r : Fin 4096) : Fin 32768 := ⟨t.val * 4096 + r.val, by
  have h : t.val < 8 := t.isLt
  have := r.isLt
  omega⟩

variable (V : Arrs (F := Ideal)) (t : Fin cfg1.N) (r : Fin 4096)

theorem blk_0 (l : Fin 128) : blkOf V d 0 t (ValueIdx.ix2 r l) = V d main_arg0 (ValueIdx.ix2 (rowAt t r) l) := by
  show V d main_arg0 (((cfg1.win 0).blk t).view.emb (ValueIdx.ix2 r l)) = _
  refine congrArg (V d main_arg0) ?_
  blk_ext [idx_0 t]
theorem blk_1 (l : Fin 128) : blkOf V d 1 t (ValueIdx.ix2 r l) = V d main_arg1 (ValueIdx.ix2 (rowAt t r) l) := by
  show V d main_arg1 (((cfg1.win 1).blk t).view.emb (ValueIdx.ix2 r l)) = _
  refine congrArg (V d main_arg1) ?_
  blk_ext [idx_1 t]
theorem blk_2 : blkOf V d 2 t (ValueIdx.ix2 r 0) = V d main_v1 (ValueIdx.ix2 (rowAt t r) 0) := by
  show V d main_v1 (((cfg1.win 2).blk t).view.emb (ValueIdx.ix2 r 0)) = _
  refine congrArg (V d main_v1) ?_
  blk_ext [idx_2 t]
theorem blk_3 : blkOf V d 3 t (ValueIdx.ix2 r 0) = V d main_v2 (ValueIdx.ix2 (rowAt t r) 0) := by
  show V d main_v2 (((cfg1.win 3).blk t).view.emb (ValueIdx.ix2 r 0)) = _
  refine congrArg (V d main_v2) ?_
  blk_ext [idx_3 t]
theorem blk_4 (k : Fin 64) (c : Fin 8) : blkOf V d 4 t (ValueIdx.ix2 k c) = V d main_v7 (ValueIdx.ix2 k c) := by
  show V d main_v7 (((cfg1.win 4).blk t).view.emb (ValueIdx.ix2 k c)) = _
  refine congrArg (V d main_v7) ?_
  blk_ext [idx_4 t]

end Cert.Proof.Arrs

end
-- ==== Proof.Value.lean ====
/-
  The kernel's two results and the reference's, the same extended reals and the same classes.
-/
module

public import proofs.«01_k».proof.Proof.ArrsAt
public import proofs.«01_k».proof.Proof.RefRun

@[expose] public section

set_option maxRecDepth 16384

noncomputable section

namespace Cert.Proof.Value

open Cert.KernelIdeal Cert.KernelIdeal.Gen
open Idealize.ShloMosaic Idealize.ShloMosaic.TcCoe Idealize.ShloMosaic.Tactic
open Idealize.SL.Sem
open Cert.Proof.Dispatch Cert.Proof.Region Cert.Proof.Run
open Cert.Proof.Arrs (rowAt)

variable (m : (ℓ : Loc nD τ sig) → Buf (Elt Ideal) ℓ) (d : Dev nD)

/-! ## The arguments at their types -/

abbrev X : FVec Ideal S32768x128 .f32 := m (d, rf main_arg0)
abbrev U : FVec Ideal S32768x128 .f32 := m (d, rf main_arg1)
abbrev XT : IVec S32768 32 := m (d, rf main_arg2)
abbrev TS : IVec S128 32 := m (d, rf main_arg3)
abbrev BT : IVec S32768 32 := m (d, rf main_arg4)

/-- What the reference computes of them. -/
abbrev sumT : FVec Ideal S32768x128 .f32 := Ref.sumTerm (X m d) (XT m d) (TS m d) (BT m d)
abbrev zeroT : IVec S32768 1 := Ref.zeroAt (TS m d) (BT m d)
abbrev wantLP : FVec Ideal S32768x128 .f32 := Ref.logProb (X m d) (sumT m d) (zeroT m d)
abbrev wantSM : IVec S32768 32 := Ref.choice (X m d) (U m d) (sumT m d) (zeroT m d)

/-! ## One row of one block -/

section Row

variable (ht : ∀ i, (TS m d i).toNat < 50) (hb : ∀ i, (BT m d i).toNat < 128) (t : Fin cfg1.N) (r : Fin 4096)

/-- The row's timestep. -/
abbrev tm : Fin 50 := Ref.timeOf (TS m d) (BT m d) ht (rowAt t r)

theorem time_eq : (blkOf (arrs m) d 3 t (ValueIdx.ix2 r 0) : BitVec 32).toNat = (Table.up (tm m d ht t r)).val := by
  rw [Arrs.blk_3, Arrs.arrs_v2]
  rfl

theorem mark_eq : (blkOf (arrs m) d 4 t (ValueIdx.ix2 (Table.up (tm m d ht t r)) 5) : EReal) = (if (tm m d ht t r).val = 0 then (1 : EReal) else 0 : EReal) := by
  rw [Arrs.blk_4, Arrs.arrs_v7]
  exact Table.tab_5 _

theorem x_row : (fun k : Fin 128 => (blkOf (arrs m) d 0 t (ValueIdx.ix2 r k) : EReal)) = fun k => X m d (ValueIdx.ix2 (rowAt t r) k) :=
  funext fun k => by rw [Arrs.blk_0, Arrs.arrs_arg m d main_arg0 (by decide)]

theorem u_row : (fun k : Fin 128 => (blkOf (arrs m) d 1 t (ValueIdx.ix2 r k) : EReal)) = fun k => U m d (ValueIdx.ix2 (rowAt t r) k) :=
  funext fun k => by rw [Arrs.blk_1, Arrs.arrs_arg m d main_arg1 (by decide)]

theorem cls_eq : (blkOf (arrs m) d 2 t (ValueIdx.ix2 r 0) : BitVec 32) = XT m d (ValueIdx.ix1 (rowAt t r)) := by
  rw [Arrs.blk_2, Arrs.arrs_v1]

theorem tab_row : (fun c : Fin 8 => (blkOf (arrs m) d 4 t (ValueIdx.ix2 (Table.up (tm m d ht t r)) c) : EReal))
    = fun c => Table.tab (ValueIdx.ix2 (Table.up (tm m d ht t r)) c) :=
  funext fun c => by rw [Arrs.blk_4, Arrs.arrs_v7]

/-- The row's sums. -/
theorem sums_eq : BlockAt.rowOf (fun c : Fin 8 => (blkOf (arrs m) d 4 t (ValueIdx.ix2 (Table.up (tm m d ht t r)) c) : EReal))
      (blkOf (arrs m) d 2 t (ValueIdx.ix2 r 0) : BitVec 32).toNat (fun k : Fin 128 => (blkOf (arrs m) d 0 t (ValueIdx.ix2 r k) : EReal))
    = Ref.sRow (X m d) (XT m d) (TS m d) (BT m d) ht (rowAt t r) := by
  rw [tab_row, x_row, cls_eq, Table.rowOf_tab]

include ht hb in
theorem lp_row (l : Fin 128) : lpAt (arrs m) d t (ValueIdx.ix2 r l) = wantLP m d (ValueIdx.ix2 (rowAt t r) l) := by
  refine (BlockAt.lpBlk_at (blkOf (arrs m) d 0 t) (blkOf (arrs m) d 2 t) (blkOf (arrs m) d 3 t) (blkOf (arrs m) d 4 t) r
    (Table.up (tm m d ht t r)) (time_eq m d ht t r) ((tm m d ht t r).val = 0) (mark_eq m d ht t r) l).trans ?_
  rw [sums_eq m d ht t r, x_row]
  exact (Ref.logProb_at (X m d) (XT m d) (TS m d) (BT m d) ht hb (rowAt t r) l).symm

include ht hb in
theorem sm_row : smAt (arrs m) d t (ValueIdx.ix2 r 0) = wantSM m d (ValueIdx.ix1 (rowAt t r)) := by
  obtain ⟨n, hn⟩ := First.exists_first (Scalar.scores ((tm m d ht t r).val = 0) (fun k => X m d (ValueIdx.ix2 (rowAt t r) k))
    (fun k => U m d (ValueIdx.ix2 (rowAt t r) k)) (Ref.sRow (X m d) (XT m d) (TS m d) (BT m d) ht (rowAt t r)))
  refine (BlockAt.smBlk_at (blkOf (arrs m) d 0 t) (blkOf (arrs m) d 1 t) (blkOf (arrs m) d 2 t) (blkOf (arrs m) d 3 t) (blkOf (arrs m) d 4 t) r
    (Table.up (tm m d ht t r)) (time_eq m d ht t r) ((tm m d ht t r).val = 0) (mark_eq m d ht t r) n ?_).trans ?_
  · rw [sums_eq m d ht t r, x_row, u_row]
    exact hn
  · exact (Ref.choice_at (X m d) (U m d) (XT m d) (TS m d) (BT m d) ht hb (rowAt t r) n hn).symm

end Row

/-! ## The two result arrays -/

section Results

variable (ht : ∀ i, (TS m d i).toNat < 50) (hb : ∀ i, (BT m d i).toNat < 128)
include ht hb

theorem lp_out : lpOut (arrs m) lim d = wantLP m d := by
  unfold lpOut
  refine (dat (arrs m) lim d).arrAt_eq_of_covers 5 _ (by decide +kernel) fun t hf y => ?_
  blk_simp
  dsimp only [dat]
  obtain ⟨r, l, rfl⟩ : ∃ (r : Fin 4096) (l : Fin 128), y = ValueIdx.ix2 r l := ⟨y 0, y 1, ValueIdx.eq_ix2 y⟩
  refine (lp_row m d ht hb t r l).trans (congrArg (wantLP m d) ?_)
  blk_ext [Arrs.idx_5 t]

theorem sm_out (r : Fin 32768) : smOut (arrs m) lim d (ValueIdx.ix2 r 0) = wantSM m d (ValueIdx.ix1 r) := by
  have h : smOut (arrs m) lim d = fun j : S32768x1.Idx => wantSM m d (ValueIdx.ix1 (j 0)) := by
    unfold smOut
    refine (dat (arrs m) lim d).arrAt_eq_of_covers 6 _ (by decide +kernel) fun t hf y => ?_
    blk_simp
    dsimp only [dat]
    obtain ⟨r, rfl⟩ : ∃ r : Fin 4096, y = ValueIdx.ix2 r 0 := ⟨y 0, (ValueIdx.eq_ix2 y).trans (congrArg (ValueIdx.ix2 (y 0)) (Subsingleton.elim (α := Fin 1) _ _))⟩
    refine (sm_row m d ht hb t r).trans (congrArg (fun k => wantSM m d (ValueIdx.ix1 k)) ?_)
    refine Fin.ext ?_
    blk_simp [Arrs.idx_6 t]
  rw [h]

theorem final_lp : val5 m d (rf main_v8_0) = wantLP m d := (Arrs.val5_v8 m d).trans (lp_out m d ht hb)

theorem final_sm : val5 m d (rf main_v9) = wantSM m d := by
  funext j
  obtain ⟨r, rfl⟩ : ∃ r : Fin 32768, j = ValueIdx.ix1 r := ⟨j 0, ValueIdx.eq_ix1 j⟩
  exact (Arrs.val5_v9 m d r).trans (sm_out m d ht hb r)

end Results

/-! ## The claim -/

theorem algebraic : Cert.algebraic_KernelIdeal_ReferenceIdeal := by
  intro m g m' g' hp hargs
  have hr := fun d => Ranges.of_no_tie _ _ _ _ _ (hp d)
  refine ⟨fun d => wantLP m d, fun d => wantSM m d, ?_, ?_⟩
  · refine θ_run_mono (run_main m g fun d x => (hr d).2 x) fun r h d => ?_
    have a := args_of_QC m h d
    refine ⟨?_, ?_, a _ (by decide), a _ (by decide), a _ (by decide), a _ (by decide), a _ (by decide)⟩
    · exact (h.1 d (rf main_v8_0) (by decide)).trans (final_lp m d (hr d).1 (hr d).2)
    · exact (h.1 d (rf main_v9) (by decide)).trans (final_sm m d (hr d).1 (hr d).2)
  · refine θ_run_mono (Ref.run_main m' g') fun r h d => ?_
    obtain ⟨e0, e1, e2, e3, e4⟩ := hargs d
    obtain ⟨h0, h1, hrest⟩ := h.1 d
    refine ⟨?_, ?_, hrest⟩
    · rw [h0, Ref.ops_v67]
      unfold Ref.sumAt Ref.maskAt
      rw [e0, e2, e3, e4]
    · rw [h1, Ref.ops_v79]
      unfold Ref.sumAt Ref.maskAt
      rw [e0, e1, e2, e3, e4]

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_batch_in_range
public import proofs.«01_k».proof.Proof.Gen.Pre_in_range_no_tie
public import Idealize.ShloMosaic.Adequacy
public import proofs.«01_k».proof.Proof.Frames
public import proofs.«01_k».proof.Proof.RefRun
public import proofs.«01_k».proof.Proof.Value
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_batch_in_range.Gen.facts,
    Cert.Pre_in_range_no_tie.Gen.facts, Run.frame_bits, Run.frame_bits_no_tie, Run.frame_ideal, Ref.frame_ref, Ref.frame_ref_no_tie, trivial, Value.algebraic⟩

end Cert.Proof

end
